-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1x512 : Shape := ⟨2, ![1, 512]⟩
abbrev S16x1x512 : Shape := ⟨3, ![16, 1, 512]⟩
abbrev S16 : Shape := ⟨1, ![16]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S16x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v8 : BitVec 1 := Scalar.cmpi .sgt v2 c0_i32
  let v9 : BitVec 32 := Scalar.extui v8
  let c0_i32_2 : BitVec 32 := 0#32
  let v10 : BitVec 1 := Scalar.cmpi .ne v9 c0_i32_2
  v10

def k0_dev1 : Nat :=
  let c0_i32_152 : BitVec 32 := 0#32
  let c0_i32_150 : BitVec 32 := 0#32
  let c1_i32_151 : BitVec 32 := 1#32
  let v253 : BitVec 32 := Scalar.muli c0_i32_150 c1_i32_151
  let v254 : BitVec 32 := Scalar.addi c0_i32_152 v253
  v254.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v11 : BitVec 1 := Scalar.cmpi .sgt v2 c1_i32_3
  let v12 : BitVec 32 := Scalar.extui v11
  let c0_i32_4 : BitVec 32 := 0#32
  let v13 : BitVec 1 := Scalar.cmpi .ne v12 c0_i32_4
  v13

def k0_dev2 : Nat :=
  let c0_i32_152 : BitVec 32 := 0#32
  let c1_i32_150 : BitVec 32 := 1#32
  let c1_i32_151 : BitVec 32 := 1#32
  let v253 : BitVec 32 := Scalar.muli c1_i32_150 c1_i32_151
  let v254 : BitVec 32 := Scalar.addi c0_i32_152 v253
  v254.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 1 := Scalar.cmpi .sgt v2 c2_i32
  let v15 : BitVec 32 := Scalar.extui v14
  let c0_i32_5 : BitVec 32 := 0#32
  let v16 : BitVec 1 := Scalar.cmpi .ne v15 c0_i32_5
  v16

def k0_dev3 : Nat :=
  let c0_i32_152 : BitVec 32 := 0#32
  let c2_i32_150 : BitVec 32 := 2#32
  let c1_i32_151 : BitVec 32 := 1#32
  let v253 : BitVec 32 := Scalar.muli c2_i32_150 c1_i32_151
  let v254 : BitVec 32 := Scalar.addi c0_i32_152 v253
  v254.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 1 := Scalar.cmpi .sgt v2 c3_i32
  let v18 : BitVec 32 := Scalar.extui v17
  let c0_i32_6 : BitVec 32 := 0#32
  let v19 : BitVec 1 := Scalar.cmpi .ne v18 c0_i32_6
  v19

def k0_dev4 : Nat :=
  let c0_i32_152 : BitVec 32 := 0#32
  let c3_i32_150 : BitVec 32 := 3#32
  let c1_i32_151 : BitVec 32 := 1#32
  let v253 : BitVec 32 := Scalar.muli c3_i32_150 c1_i32_151
  let v254 : BitVec 32 := Scalar.addi c0_i32_152 v253
  v254.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v20 : BitVec 1 := Scalar.cmpi .sgt v2 c4_i32
  let v21 : BitVec 32 := Scalar.extui v20
  let c0_i32_7 : BitVec 32 := 0#32
  let v22 : BitVec 1 := Scalar.cmpi .ne v21 c0_i32_7
  v22

def k0_dev5 : Nat :=
  let c0_i32_152 : BitVec 32 := 0#32
  let c4_i32_150 : BitVec 32 := 4#32
  let c1_i32_151 : BitVec 32 := 1#32
  let v253 : BitVec 32 := Scalar.muli c4_i32_150 c1_i32_151
  let v254 : BitVec 32 := Scalar.addi c0_i32_152 v253
  v254.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v23 : BitVec 1 := Scalar.cmpi .sgt v2 c5_i32
  let v24 : BitVec 32 := Scalar.extui v23
  let c0_i32_8 : BitVec 32 := 0#32
  let v25 : BitVec 1 := Scalar.cmpi .ne v24 c0_i32_8
  v25

def k0_dev6 : Nat :=
  let c0_i32_152 : BitVec 32 := 0#32
  let c5_i32_150 : BitVec 32 := 5#32
  let c1_i32_151 : BitVec 32 := 1#32
  let v253 : BitVec 32 := Scalar.muli c5_i32_150 c1_i32_151
  let v254 : BitVec 32 := Scalar.addi c0_i32_152 v253
  v254.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v26 : BitVec 1 := Scalar.cmpi .sgt v2 c6_i32
  let v27 : BitVec 32 := Scalar.extui v26
  let c0_i32_9 : BitVec 32 := 0#32
  let v28 : BitVec 1 := Scalar.cmpi .ne v27 c0_i32_9
  v28

def k0_dev7 : Nat :=
  let c0_i32_152 : BitVec 32 := 0#32
  let c6_i32_150 : BitVec 32 := 6#32
  let c1_i32_151 : BitVec 32 := 1#32
  let v253 : BitVec 32 := Scalar.muli c6_i32_150 c1_i32_151
  let v254 : BitVec 32 := Scalar.addi c0_i32_152 v253
  v254.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 1 := Scalar.cmpi .sgt v2 c7_i32
  let v30 : BitVec 32 := Scalar.extui v29
  let c0_i32_10 : BitVec 32 := 0#32
  let v31 : BitVec 1 := Scalar.cmpi .ne v30 c0_i32_10
  v31

def k0_dev8 : Nat :=
  let c0_i32_152 : BitVec 32 := 0#32
  let c7_i32_150 : BitVec 32 := 7#32
  let c1_i32_151 : BitVec 32 := 1#32
  let v253 : BitVec 32 := Scalar.muli c7_i32_150 c1_i32_151
  let v254 : BitVec 32 := Scalar.addi c0_i32_152 v253
  v254.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 1 := Scalar.cmpi .sgt v2 c8_i32
  let v33 : BitVec 32 := Scalar.extui v32
  let c0_i32_11 : BitVec 32 := 0#32
  let v34 : BitVec 1 := Scalar.cmpi .ne v33 c0_i32_11
  v34

def k0_dev9 : Nat :=
  let c0_i32_152 : BitVec 32 := 0#32
  let c8_i32_150 : BitVec 32 := 8#32
  let c1_i32_151 : BitVec 32 := 1#32
  let v253 : BitVec 32 := Scalar.muli c8_i32_150 c1_i32_151
  let v254 : BitVec 32 := Scalar.addi c0_i32_152 v253
  v254.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v35 : BitVec 1 := Scalar.cmpi .sgt v2 c9_i32
  let v36 : BitVec 32 := Scalar.extui v35
  let c0_i32_12 : BitVec 32 := 0#32
  let v37 : BitVec 1 := Scalar.cmpi .ne v36 c0_i32_12
  v37

def k0_dev10 : Nat :=
  let c0_i32_152 : BitVec 32 := 0#32
  let c9_i32_150 : BitVec 32 := 9#32
  let c1_i32_151 : BitVec 32 := 1#32
  let v253 : BitVec 32 := Scalar.muli c9_i32_150 c1_i32_151
  let v254 : BitVec 32 := Scalar.addi c0_i32_152 v253
  v254.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v38 : BitVec 1 := Scalar.cmpi .sgt v2 c10_i32
  let v39 : BitVec 32 := Scalar.extui v38
  let c0_i32_13 : BitVec 32 := 0#32
  let v40 : BitVec 1 := Scalar.cmpi .ne v39 c0_i32_13
  v40

def k0_dev11 : Nat :=
  let c0_i32_152 : BitVec 32 := 0#32
  let c10_i32_150 : BitVec 32 := 10#32
  let c1_i32_151 : BitVec 32 := 1#32
  let v253 : BitVec 32 := Scalar.muli c10_i32_150 c1_i32_151
  let v254 : BitVec 32 := Scalar.addi c0_i32_152 v253
  v254.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v41 : BitVec 1 := Scalar.cmpi .sgt v2 c11_i32
  let v42 : BitVec 32 := Scalar.extui v41
  let c0_i32_14 : BitVec 32 := 0#32
  let v43 : BitVec 1 := Scalar.cmpi .ne v42 c0_i32_14
  v43

def k0_dev12 : Nat :=
  let c0_i32_152 : BitVec 32 := 0#32
  let c11_i32_150 : BitVec 32 := 11#32
  let c1_i32_151 : BitVec 32 := 1#32
  let v253 : BitVec 32 := Scalar.muli c11_i32_150 c1_i32_151
  let v254 : BitVec 32 := Scalar.addi c0_i32_152 v253
  v254.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v44 : BitVec 1 := Scalar.cmpi .sgt v2 c12_i32
  let v45 : BitVec 32 := Scalar.extui v44
  let c0_i32_15 : BitVec 32 := 0#32
  let v46 : BitVec 1 := Scalar.cmpi .ne v45 c0_i32_15
  v46

def k0_dev13 : Nat :=
  let c0_i32_152 : BitVec 32 := 0#32
  let c12_i32_150 : BitVec 32 := 12#32
  let c1_i32_151 : BitVec 32 := 1#32
  let v253 : BitVec 32 := Scalar.muli c12_i32_150 c1_i32_151
  let v254 : BitVec 32 := Scalar.addi c0_i32_152 v253
  v254.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v47 : BitVec 1 := Scalar.cmpi .sgt v2 c13_i32
  let v48 : BitVec 32 := Scalar.extui v47
  let c0_i32_16 : BitVec 32 := 0#32
  let v49 : BitVec 1 := Scalar.cmpi .ne v48 c0_i32_16
  v49

def k0_dev14 : Nat :=
  let c0_i32_152 : BitVec 32 := 0#32
  let c13_i32_150 : BitVec 32 := 13#32
  let c1_i32_151 : BitVec 32 := 1#32
  let v253 : BitVec 32 := Scalar.muli c13_i32_150 c1_i32_151
  let v254 : BitVec 32 := Scalar.addi c0_i32_152 v253
  v254.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v50 : BitVec 1 := Scalar.cmpi .sgt v2 c14_i32
  let v51 : BitVec 32 := Scalar.extui v50
  let c0_i32_17 : BitVec 32 := 0#32
  let v52 : BitVec 1 := Scalar.cmpi .ne v51 c0_i32_17
  v52

def k0_dev15 : Nat :=
  let c0_i32_152 : BitVec 32 := 0#32
  let c14_i32_150 : BitVec 32 := 14#32
  let c1_i32_151 : BitVec 32 := 1#32
  let v253 : BitVec 32 := Scalar.muli c14_i32_150 c1_i32_151
  let v254 : BitVec 32 := Scalar.addi c0_i32_152 v253
  v254.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_52 : BitVec 32 := 1#32
  let v105 : BitVec 1 := Scalar.cmpi .slt v2 c1_i32_52
  let v106 : BitVec 32 := Scalar.extui v105
  let c0_i32_53 : BitVec 32 := 0#32
  let v107 : BitVec 1 := Scalar.cmpi .ne v106 c0_i32_53
  v107

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_54 : BitVec 32 := 2#32
  let v108 : BitVec 1 := Scalar.cmpi .slt v2 c2_i32_54
  let v109 : BitVec 32 := Scalar.extui v108
  let c0_i32_55 : BitVec 32 := 0#32
  let v110 : BitVec 1 := Scalar.cmpi .ne v109 c0_i32_55
  v110

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_56 : BitVec 32 := 3#32
  let v111 : BitVec 1 := Scalar.cmpi .slt v2 c3_i32_56
  let v112 : BitVec 32 := Scalar.extui v111
  let c0_i32_57 : BitVec 32 := 0#32
  let v113 : BitVec 1 := Scalar.cmpi .ne v112 c0_i32_57
  v113

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_58 : BitVec 32 := 4#32
  let v114 : BitVec 1 := Scalar.cmpi .slt v2 c4_i32_58
  let v115 : BitVec 32 := Scalar.extui v114
  let c0_i32_59 : BitVec 32 := 0#32
  let v116 : BitVec 1 := Scalar.cmpi .ne v115 c0_i32_59
  v116

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_60 : BitVec 32 := 5#32
  let v117 : BitVec 1 := Scalar.cmpi .slt v2 c5_i32_60
  let v118 : BitVec 32 := Scalar.extui v117
  let c0_i32_61 : BitVec 32 := 0#32
  let v119 : BitVec 1 := Scalar.cmpi .ne v118 c0_i32_61
  v119

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_62 : BitVec 32 := 6#32
  let v120 : BitVec 1 := Scalar.cmpi .slt v2 c6_i32_62
  let v121 : BitVec 32 := Scalar.extui v120
  let c0_i32_63 : BitVec 32 := 0#32
  let v122 : BitVec 1 := Scalar.cmpi .ne v121 c0_i32_63
  v122

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_64 : BitVec 32 := 7#32
  let v123 : BitVec 1 := Scalar.cmpi .slt v2 c7_i32_64
  let v124 : BitVec 32 := Scalar.extui v123
  let c0_i32_65 : BitVec 32 := 0#32
  let v125 : BitVec 1 := Scalar.cmpi .ne v124 c0_i32_65
  v125

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_66 : BitVec 32 := 8#32
  let v126 : BitVec 1 := Scalar.cmpi .slt v2 c8_i32_66
  let v127 : BitVec 32 := Scalar.extui v126
  let c0_i32_67 : BitVec 32 := 0#32
  let v128 : BitVec 1 := Scalar.cmpi .ne v127 c0_i32_67
  v128

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_68 : BitVec 32 := 9#32
  let v129 : BitVec 1 := Scalar.cmpi .slt v2 c9_i32_68
  let v130 : BitVec 32 := Scalar.extui v129
  let c0_i32_69 : BitVec 32 := 0#32
  let v131 : BitVec 1 := Scalar.cmpi .ne v130 c0_i32_69
  v131

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_70 : BitVec 32 := 10#32
  let v132 : BitVec 1 := Scalar.cmpi .slt v2 c10_i32_70
  let v133 : BitVec 32 := Scalar.extui v132
  let c0_i32_71 : BitVec 32 := 0#32
  let v134 : BitVec 1 := Scalar.cmpi .ne v133 c0_i32_71
  v134

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_72 : BitVec 32 := 11#32
  let v135 : BitVec 1 := Scalar.cmpi .slt v2 c11_i32_72
  let v136 : BitVec 32 := Scalar.extui v135
  let c0_i32_73 : BitVec 32 := 0#32
  let v137 : BitVec 1 := Scalar.cmpi .ne v136 c0_i32_73
  v137

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_74 : BitVec 32 := 12#32
  let v138 : BitVec 1 := Scalar.cmpi .slt v2 c12_i32_74
  let v139 : BitVec 32 := Scalar.extui v138
  let c0_i32_75 : BitVec 32 := 0#32
  let v140 : BitVec 1 := Scalar.cmpi .ne v139 c0_i32_75
  v140

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_76 : BitVec 32 := 13#32
  let v141 : BitVec 1 := Scalar.cmpi .slt v2 c13_i32_76
  let v142 : BitVec 32 := Scalar.extui v141
  let c0_i32_77 : BitVec 32 := 0#32
  let v143 : BitVec 1 := Scalar.cmpi .ne v142 c0_i32_77
  v143

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_78 : BitVec 32 := 14#32
  let v144 : BitVec 1 := Scalar.cmpi .slt v2 c14_i32_78
  let v145 : BitVec 32 := Scalar.extui v144
  let c0_i32_79 : BitVec 32 := 0#32
  let v146 : BitVec 1 := Scalar.cmpi .ne v145 c0_i32_79
  v146

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_80 : BitVec 32 := 15#32
  let v147 : BitVec 1 := Scalar.cmpi .slt v2 c15_i32_80
  let v148 : BitVec 32 := Scalar.extui v147
  let c0_i32_81 : BitVec 32 := 0#32
  let v149 : BitVec 1 := Scalar.cmpi .ne v148 c0_i32_81
  v149

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S_, .f32⟩
  | .hbm, ⟨3, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdealCells.lean ====
/-
The kernel's buffers, semaphores and contents, named once for the whole proof.

The protocol on device `c`, for each of its semaphores:

* its BARRIER semaphore: every device `t` after `c` signals it once, and `c` waits for those `15 - c` units one at a
  time. The signal of `t` hands over slot `c` of `t`'s table of totals, which `c` may then write.
* its RECEIVE semaphore number `j`, for `j` before `c`: device `j`'s copy raises it on landing, and `c` waits for it
  once. The landing hands back slot `j` of `c`'s table, holding the column sums of `j`'s block.
* its SEND semaphore number `t`, for `t` after `c`: `c`'s own copy to `t` raises it, and `c` waits for it once at
  the end. It hands back the share of `c`'s column sums which that copy was reading.

The other semaphores of the two arrays are neither raised nor waited for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.ValueLayout
public import Idealize.ShloMosaic.Lib.ShareLeaves
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The protocol's own resources: rounds whose duties are named by a device. -/
abbrev UB : Type := URounds (GSem nD τ sig) (Fin 16)
/-- The pipeline library's resources beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: contents `m`, every semaphore at zero. -/
def s₀ : MemSt nD τ sig (Elt F) := ⟨m, fun _ => 0, ρ⟩

/-! ## Buffers -/

/-- The block of the input in the core's memory, the block of the result, the column sums to send, the table of totals. -/
abbrev xM : Memref sig .tc .vmem S512x512 .f32 := Memref.whole cc0_stg0_0
abbrev oM : Memref sig .tc .vmem S512x512 .f32 := Memref.whole cc0_stg1_0
abbrev sM : Memref sig .tc .vmem S1x512 .f32 := Memref.whole cc0_scratch0
abbrev tM : Memref sig .tc .vmem S16x1x512 .f32 := Memref.whole cc0_scratch1

/-- Row `off` of the table of totals as the program cuts it out. -/
abbrev cut (off : Fin 3 → Nat) (h : ∀ a, off a + S1x1x512.size a ≤ S16x1x512.size a) : Memref sig .tc .vmem S1x512 .f32 :=
  (tM.slice (Rect.unit (s := S16x1x512) off S1x1x512.size h) (fun _ => rfl)).squeeze S1x512 squeezes_S1x1x512_S1x512

/-- The entries of slot `j` of the table. -/
def slotSet (j : Fin 16) : Finset S16x1x512.Idx := Finset.univ.filter fun i => (i 0).val = j.val

theorem mem_slotSet {j : Fin 16} {i : S16x1x512.Idx} : i ∈ slotSet j ↔ (i 0).val = j.val := by
  unfold slotSet; rw [Finset.mem_filter]; exact ⟨fun h => h.2, fun h => ⟨Finset.mem_univ _, h⟩⟩

/-- The slots are disjoint and make up the table. -/
theorem slotSet_disjoint (j k : Fin 16) (h : j ≠ k) : Disjoint (slotSet j) (slotSet k) :=
  Finset.disjoint_left.mpr fun i hi hk => h (Fin.ext ((mem_slotSet.mp hi).symm.trans (mem_slotSet.mp hk)))
theorem biUnion_slotSet : (Finset.univ : Finset (Fin 16)).biUnion slotSet = Finset.univ := by
  refine Finset.eq_univ_of_forall fun i => Finset.mem_biUnion.mpr ⟨i 0, Finset.mem_univ _, mem_slotSet.mpr rfl⟩

/-- The cut at slot `j` is the entries of slot `j`. -/
theorem cut_set (j : Fin 16) (off : Fin 3 → Nat) (h : ∀ a, off a + S1x1x512.size a ≤ S16x1x512.size a) (ho : off = ![j.val, 0, 0]) :
    (cut off h).view.set = slotSet j := by
  subst ho
  show ((View.whole cc0_scratch1).slice _ |>.reshape _ _).set = _
  rw [View.set_reshape]
  ext i
  rw [View.set_slice_whole, mem_slotSet]
  rw [Rect.mem_set_unit]
  constructor
  · intro hi
    have := hi 0
    simp at this
    omega
  · intro hi a
    fin_cases a
    · simp; omega
    · have := (i 1).isLt
      simp at this ⊢ <;> omega
    · have := (i 2).isLt
      simp at this ⊢ <;> omega

/-! ## Semaphores -/

/-- The barrier semaphore, send semaphore `j` and receive semaphore `j`. -/
abbrev barS : Sem sig := (SemArray.scalar (sig.barrier 0 rfl) : Sems sig S_).sem
abbrev sendS (j : Fin 16) : DmaSem sig := ⟨2 + j.val, by have := j.isLt; show 2 + j.val < 34; omega⟩
abbrev recvS (j : Fin 16) : DmaSem sig := ⟨18 + j.val, by have := j.isLt; show 18 + j.val < 34; omega⟩

/-- Entry `off` of a semaphore array as the program cuts it out. -/
abbrev cutSem (A : DmaSems sig S16) (off : Fin 1 → Nat) (h : ∀ a, off a + S1.size a ≤ S16.size a) : DmaSem sig :=
  ((A.slice (Rect.unit (s := S16) off S1.size h)).squeeze S_ squeezes_S1_S_).sem

theorem cut_send (j : Fin 16) (off : Fin 1 → Nat) (h : ∀ a, off a + S1.size a ≤ S16.size a) (ho : off = ![j.val]) :
    cutSem cc0_scratch2 off h = sendS j := by subst ho; revert h; revert j; decide
theorem cut_recv (j : Fin 16) (off : Fin 1 → Nat) (h : ∀ a, off a + S1.size a ≤ S16.size a) (ho : off = ![j.val]) :
    cutSem cc0_scratch3 off h = recvS j := by subst ho; revert h; revert j; decide

abbrev barCell (c : Dev nD) : GSem nD τ sig := ((c : Thread nD τ), .reg barS)
abbrev sendCell (c : Dev nD) (t : Fin 16) : GSem nD τ sig := ((c : Thread nD τ), .dma (sendS t))
abbrev recvCell (c : Dev nD) (j : Fin 16) : GSem nD τ sig := ((c : Thread nD τ), .dma (recvS j))

/-- What one copy's landing adds to its semaphore. -/
abbrev N : ℕ := sM.view.dmaCredit
theorem N_pos : 0 < N := View.dmaCredit_pos _ (by decide)

/-- A landing in any slot of the table adds the same. -/
theorem cut_credit (off : Fin 3 → Nat) (h : ∀ a, off a + S1x1x512.size a ≤ S16x1x512.size a) : (cut off h).view.dmaCredit = N := by
  show sig.dmaCredit .tc (Kind.tc.table .vmem) cc0_scratch1.idx S1x512 .f32 = sig.dmaCredit .tc (Kind.tc.table .vmem) cc0_scratch0.idx S1x512 .f32
  decide

/-! ## Contents -/

/-- Device `c`'s block of the input. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block. -/
def col (c : Dev nD) : (cc0_scratch0 : Ref sig .tc).ty.Contents (Elt F) := k0_pay3 (xstg m ρ c)

/-- Entry `k` of the column sums of device `c`'s block. -/
def colAt (c : Dev nD) (i : S16x1x512.Idx) : Elt F .f32 := col m ρ c (fun a => match a with | 0 => i 1 | 1 => i 2)

/-- The table of totals once zeroed. -/
def zeros : (cc0_scratch1 : Ref sig .tc).ty.Contents (Elt F) := k0_pay1 (F := F)

/-- The table of totals of device `c` after every copy landed: slot `j` holds device `j`'s column sums if `j` is before `c`,
    else zeros. -/
def tot (c : Dev nD) : (cc0_scratch1 : Ref sig .tc).ty.Contents (Elt F) :=
  fun i => if (i 0).val < c.val then colAt m ρ (i 0) i else zeros (F := F) i

/-- The block of the result which device `c` leaves. -/
def outAt (c : Dev nD) : (cc0_stg1_0 : Ref sig .tc).ty.Contents (Elt F) :=
  k0_pay5 (k0_pay4 (k0_pay2 (xstg m ρ c)) (iota .tc S512x512 32 [0] iota_S512x512_d0_w32)) (tot m ρ c)

/-! ## Points-tos -/

/-- Slot `j` of device `c`'s table, at contents `f` there. -/
def slotPts (c : Dev nD) (j : Fin 16) (f : (cc0_scratch1 : Ref sig .tc).ty.Contents (Elt F)) : sProp 𝕄 :=
  ((c : Thread nD τ).loc cc0_scratch1) ↦[slotSet j]{fullShare} f

/-- The sixteenth share number `t` of device `c`'s column sums. -/
def srcPts (c : Dev nD) (t : Fin 16) : sProp 𝕄 :=
  ((c : Thread nD τ).loc cc0_scratch0) ↦[Finset.univ]{ShareLeaves.leaf 4 fullShare t} col m ρ c

omit [FloatOps F] in
instance slotPts_storable (c : Dev nD) (j : Fin 16) (f) : BI.Storable (upEmb : UEmb _ 𝕄) (slotPts (F := F) c j f) := by
  unfold slotPts; infer_instance
instance srcPts_storable (c : Dev nD) (t : Fin 16) : BI.Storable (upEmb : UEmb _ 𝕄) (srcPts (F := F) m ρ c t) := by
  unfold srcPts; infer_instance

omit [FloatOps F] in
/-- The whole table is its sixteen slots. -/
theorem table_eq (c : Dev nD) (f : (cc0_scratch1 : Ref sig .tc).ty.Contents (Elt F)) :
    (((c : Thread nD τ).loc cc0_scratch1) ↦{fullShare} f : sProp 𝕄) = bigSep Finset.univ fun j : Fin 16 => slotPts c j f := by
  have h := pointsTo_biUnion (Ix := Unit) (Val := Elt F) (Name := ℕ) (U := UU) (Lvl := ℕ) (ℓ := (c : Thread nD τ).loc cc0_scratch1) (q := fullShare) (f := f)
    Finset.univ slotSet fun j _ k _ h => slotSet_disjoint j k h
  rw [biUnion_slotSet] at h
  exact h
omit [FloatOps F] in
/-- A points-to at a share as its sixteen shares. -/
theorem shares_eq {ℓ : Loc nD τ sig} (I : Finset (Idx ℓ)) (f : Buf (Elt F) ℓ) (q : PosShare TreeShare) :
    (ℓ ↦[I]{q} f : sProp 𝕄) = bigSep Finset.univ fun t : Fin 16 => ℓ ↦[I]{ShareLeaves.leaf 4 q t} f :=
  ShareLeaves.pointsTo_leaves I f 4 q
/-- The column sums held whole are their sixteen shares. -/
theorem src_eq (c : Dev nD) :
    (((c : Thread nD τ).loc cc0_scratch0) ↦{fullShare} col m ρ c : sProp 𝕄) = bigSep Finset.univ fun t : Fin 16 => srcPts m ρ c t :=
  shares_eq (ℓ := (c : Thread nD τ).loc cc0_scratch0) Finset.univ (col m ρ c) fullShare

/-- A slot which no copy fills holds its zeros. -/
theorem slot_zeros (c : Dev nD) (j : Fin 16) (h : ¬ j.val < c.val) : slotPts (F := F) c j zeros = slotPts c j (tot m ρ c) := by
  unfold slotPts
  refine pointsTo_congr fun i hi => ?_
  unfold tot
  rw [if_neg (by rw [mem_slotSet.mp hi]; exact h)]

/-- Where the cut at slot `j` puts its entry `x`. -/
theorem cut_emb (j : Fin 16) (off : Fin 3 → Nat) (h : ∀ a, off a + S1x1x512.size a ≤ S16x1x512.size a) (ho : off = ![j.val, 0, 0]) (x : S1x512.Idx) :
    (cut off h).view.emb x = (fun a => match a with | 0 => j | 1 => x 0 | 2 => x 1 : S16x1x512.Idx) := by
  subst ho
  obtain ⟨p, q, rfl⟩ : ∃ (p : Fin 1) (q : Fin 512), x = ValueIdx.ix2 p q :=
    ⟨x 0, x 1, funext fun a => by match a with | 0 => rfl | 1 => rfl⟩
  show (Rect.unit (s := S16x1x512) ![j.val, 0, 0] S1x1x512.size h).emb (Shape.reshapeEquiv _ (ValueIdx.ix2 p q)) = _
  erw [ValueIdx.reshapeEquiv_ix2_1ab]
  funext a
  refine Fin.ext ?_
  rw [Rect.emb_apply]
  match a with
  | 0 => simp
  | 1 => simp
  | 2 => simp

/-- What device `c`'s copy leaves in slot `c` of a later device's table. -/
theorem landed (c t : Dev nD) (hct : c.val < t.val) (off : Fin 3 → Nat) (h : ∀ a, off a + S1x1x512.size a ≤ S16x1x512.size a) (ho : off = ![c.val, 0, 0])
    (f : (cc0_scratch1 : Ref sig .tc).ty.Contents (Elt F)) (i : S16x1x512.Idx) (hi : i ∈ slotSet c) :
    (cut off h).view.write (Elt F) f (sM.view.read (Elt F) (col m ρ c)) Finset.univ i = tot m ρ t i := by
  rw [← cut_set c off h ho] at hi
  obtain ⟨x, -, rfl⟩ := Finset.mem_map.mp hi
  rw [View.write_emb_of_mem _ _ (Finset.mem_univ x), cut_emb c off h ho x]
  unfold tot
  refine Eq.trans ?_ (if_pos hct).symm
  unfold colAt
  exact (congrFun (View.read_whole cc0_scratch0 (col m ρ c)) x).trans
    (congrArg (col m ρ c) (funext fun a => by match a with | 0 => rfl | 1 => rfl))

end Cert.KernelIdeal.Scan

end
-- ==== Proof.KernelIdealSchedule.lean ====
/-
The schedule of the protocol: which raises each semaphore receives, how much each adds and what it hands over; what each
device owes at launch; the order in which the semaphores may be waited for.
-/
module

public import proofs.«01_k».proof.Proof.KernelIdealCells

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore of its array -/

/-- The place in its array of a send or a receive semaphore. -/
def place (q : DmaSem sig) : Fin 16 := ⟨(q.val + 14) % 16, Nat.mod_lt _ (by decide)⟩

theorem place_send (j : Fin 16) : place (sendS j) = j := by revert j; decide
theorem place_recv (j : Fin 16) : place (recvS j) = j := by revert j; decide

/-- 0 for a staging semaphore, 1 for a send semaphore, 2 for a receive semaphore. -/
def kind (q : DmaSem sig) : ℕ := if q.val < 2 then 0 else if q.val < 18 then 1 else 2

theorem kind_send (j : Fin 16) : kind (sendS j) = 1 := by revert j; decide
theorem kind_recv (j : Fin 16) : kind (recvS j) = 2 := by revert j; decide

/-! ## The schedule -/

/-- The devices after `c`. -/
def later (c : Fin 16) : Finset (Fin 16) := Finset.univ.filter fun t => c.val < t.val

theorem mem_later {c t : Fin 16} : t ∈ later c ↔ c.val < t.val := by
  unfold later; rw [Finset.mem_filter]; exact ⟨fun h => h.2, fun h => ⟨Finset.mem_univ _, h⟩⟩
theorem card_later (c : Fin 16) : (later c).card = 15 - c.val := by revert c; decide

/-- The duties of a semaphore of device `c`: the barrier one of each later device, a send or receive semaphore in use one. -/
def dut (c : Dev nD) : SemLoc sig → Finset (Fin 16)
  | .reg _ => later c
  | .dma q => if (kind q = 1 ∧ c.val < (place q).val) ∨ (kind q = 2 ∧ (place q).val < c.val) then {0} else ∅

/-- What a duty hands over. -/
def pay (c : Dev nD) (d : Fin 16) : SemLoc sig → sProp 𝕄
  | .reg _ => iprop(∃ f, slotPts d c f)
  | .dma q => if kind q = 1 then srcPts m ρ c (place q) else slotPts c (place q) (tot m ρ c)

/-- The schedule: one round. A barrier duty adds one unit, a copy adds its size. -/
def scanRd : Rounds.Schedule (GSem nD τ sig) (Fin 16) 𝕄 where
  duties g r := if r = 0 ∧ g.1.2 = .tc then dut g.1.1 g.2 else ∅
  unitless _ := False
  amount g _ _ := if g.2 = .reg barS then 1 else N
  payload g _ d := pay m ρ g.1.1 d g.2
  amount_pos g _ _ _ := by
    by_cases h : g.2 = .reg barS
    · rw [if_pos h]; exact Nat.one_pos
    · rw [if_neg h]; exact N_pos

instance scanRd_payload_storable (g : GSem nD τ sig) (r : ℕ) (d : Fin 16) :
    BI.Storable (upEmb : UEmb _ 𝕄) ((scanRd (F := F) m ρ).payload g r d) := by
  show BI.Storable upEmb (pay m ρ g.1.1 d g.2)
  cases g.2 with
  | reg s => show BI.Storable upEmb iprop(∃ f, slotPts d g.1.1 f); infer_instance
  | dma q =>
    show BI.Storable upEmb (if kind q = 1 then srcPts m ρ g.1.1 (place q) else slotPts g.1.1 (place q) (tot m ρ g.1.1))
    split <;> infer_instance

section Facts

variable (c : Dev nD) (j : Fin 16)

theorem duties_zero (g : GSem nD τ sig) (hg : g.1.2 = .tc) : (scanRd m ρ).duties g 0 = dut g.1.1 g.2 := by
  show (if (0 : ℕ) = 0 ∧ g.1.2 = .tc then dut g.1.1 g.2 else ∅) = _
  rw [if_pos ⟨rfl, hg⟩]
theorem dut_dma (q : DmaSem sig) : dut c (.dma q)
    = if (kind q = 1 ∧ c.val < (place q).val) ∨ (kind q = 2 ∧ (place q).val < c.val) then {0} else ∅ := rfl
theorem duties_bar : (scanRd m ρ).duties (barCell c) 0 = later c := duties_zero m ρ _ rfl
theorem duties_send (h : c.val < j.val) : (scanRd m ρ).duties (sendCell c j) 0 = {0} := by
  refine (duties_zero m ρ _ rfl).trans ((dut_dma c (sendS j)).trans (if_pos ?_))
  rw [place_send]; exact .inl ⟨kind_send j, h⟩
theorem duties_send_none (h : ¬ c.val < j.val) : (scanRd m ρ).duties (sendCell c j) 0 = ∅ := by
  refine (duties_zero m ρ _ rfl).trans ((dut_dma c (sendS j)).trans (if_neg ?_))
  rw [place_send, kind_send]; rintro (⟨-, h'⟩ | ⟨h', -⟩); exacts [h h', absurd h' (by decide)]
theorem duties_recv (h : j.val < c.val) : (scanRd m ρ).duties (recvCell c j) 0 = {0} := by
  refine (duties_zero m ρ _ rfl).trans ((dut_dma c (recvS j)).trans (if_pos ?_))
  rw [place_recv]; exact .inr ⟨kind_recv j, h⟩
theorem duties_recv_none (h : ¬ j.val < c.val) : (scanRd m ρ).duties (recvCell c j) 0 = ∅ := by
  refine (duties_zero m ρ _ rfl).trans ((dut_dma c (recvS j)).trans (if_neg ?_))
  rw [place_recv, kind_recv]; rintro (⟨h', -⟩ | ⟨-, h'⟩); exacts [absurd h' (by decide), h h']
theorem duties_later (g : GSem nD τ sig) : ∀ r, 1 ≤ r → (scanRd m ρ).duties g r = ∅ :=
  fun r hr => by
    show (if r = 0 ∧ g.1.2 = .tc then dut g.1.1 g.2 else ∅) = _
    rw [if_neg fun h => by omega]

theorem send_ne_bar : (SemLoc.dma (sendS j) : SemLoc sig) ≠ .reg barS := fun h => by cases h
theorem recv_ne_bar : (SemLoc.dma (recvS j) : SemLoc sig) ≠ .reg barS := fun h => by cases h
theorem amount_eq (g : GSem nD τ sig) (d : Fin 16) : (scanRd m ρ).amount g 0 d = if g.2 = .reg barS then 1 else N := rfl
theorem amount_bar (d : Fin 16) : (scanRd m ρ).amount (barCell c) 0 d = 1 := (amount_eq m ρ _ d).trans (if_pos rfl)
theorem amount_send (d : Fin 16) : (scanRd m ρ).amount (sendCell c j) 0 d = N := (amount_eq m ρ _ d).trans (if_neg (send_ne_bar j))
theorem amount_recv (d : Fin 16) : (scanRd m ρ).amount (recvCell c j) 0 d = N := (amount_eq m ρ _ d).trans (if_neg (recv_ne_bar j))

theorem expect_bar : (scanRd m ρ).expect (barCell c) 0 = 15 - c.val := by
  unfold Schedule.expect Schedule.amountOf
  rw [duties_bar, Finset.sum_congr rfl fun d _ => amount_bar m ρ c d, Finset.sum_const, card_later, smul_eq_mul, Nat.mul_one]
theorem expect_send (h : c.val < j.val) : (scanRd m ρ).expect (sendCell c j) 0 = N := by
  unfold Schedule.expect Schedule.amountOf; rw [duties_send m ρ c j h, Finset.sum_singleton, amount_send]
theorem expect_recv (h : j.val < c.val) : (scanRd m ρ).expect (recvCell c j) 0 = N := by
  unfold Schedule.expect Schedule.amountOf; rw [duties_recv m ρ c j h, Finset.sum_singleton, amount_recv]

theorem payload_bar (d : Fin 16) : (scanRd m ρ).payload (barCell c) 0 d = iprop(∃ f, slotPts d c f) := rfl
theorem payload_dma (q : DmaSem sig) (d : Fin 16) : (scanRd m ρ).payload ((c : Thread nD τ), .dma q) 0 d
    = if kind q = 1 then srcPts m ρ c (place q) else slotPts c (place q) (tot m ρ c) := rfl
theorem payload_send (d : Fin 16) : (scanRd m ρ).payload (sendCell c j) 0 d = srcPts m ρ c j := by
  refine (payload_dma m ρ c (sendS j) d).trans ((if_pos (kind_send j)).trans ?_); rw [place_send]
theorem payload_recv (d : Fin 16) : (scanRd m ρ).payload (recvCell c j) 0 d = slotPts c j (tot m ρ c) := by
  refine (payload_dma m ρ c (recvS j) d).trans ((if_neg ?_).trans ?_)
  · rw [kind_recv]; decide
  · rw [place_recv]

theorem rest_send (h : c.val < j.val) :
    bigSep ((scanRd m ρ).duties (sendCell c j) 0 \ ∅) (fun d => (scanRd m ρ).payload (sendCell c j) 0 d) = srcPts m ρ c j := by
  rw [Finset.sdiff_empty, duties_send m ρ c j h, bigSep_singleton, payload_send]
theorem rest_recv (h : j.val < c.val) :
    bigSep ((scanRd m ρ).duties (recvCell c j) 0 \ ∅) (fun d => (scanRd m ρ).payload (recvCell c j) 0 d) = slotPts c j (tot m ρ c) := by
  rw [Finset.sdiff_empty, duties_recv m ρ c j h, bigSep_singleton, payload_recv]

end Facts

/-! ## What a device owes -/

/-- The barrier units device `c` still owes once it has treated the devices below `n`. -/
def Obar (c : Dev nD) (n : ℕ) : CellTallies nD τ sig Unit :=
  ∑ d ∈ (Finset.univ : Finset (Fin 16)).filter (fun d => n ≤ d.val ∧ d.val < c.val), tallyAt (barCell d) () 1
/-- The landings device `c` still owes once it has treated the devices below `n`. -/
def Orecv (c : Dev nD) (n : ℕ) : CellTallies nD τ sig Unit :=
  ∑ t ∈ (Finset.univ : Finset (Fin 16)).filter (fun t => n ≤ t.val ∧ c.val < t.val), tallyAt (recvCell t c) () N
/-- What device `c` owes at launch. -/
def O₀ (c : Dev nD) : CellTallies nD τ sig Unit := Orecv c 0 + Obar c 0

/-- A sum over the entries from `n` on that satisfy `P`, its first entry taken off. -/
theorem sum_from_peel {M : Type} [AddCommMonoid M] (P : Fin 16 → Prop) [DecidablePred P] (f : Fin 16 → M) (n : Fin 16) :
    ∑ d ∈ (Finset.univ : Finset (Fin 16)).filter (fun d => n.val ≤ d.val ∧ P d), f d
      = ∑ d ∈ (Finset.univ : Finset (Fin 16)).filter (fun d => n.val + 1 ≤ d.val ∧ P d), f d + if P n then f n else 0 := by
  by_cases h : P n
  · rw [if_pos h, show (Finset.univ : Finset (Fin 16)).filter (fun d => n.val ≤ d.val ∧ P d)
        = insert n ((Finset.univ : Finset (Fin 16)).filter (fun d => n.val + 1 ≤ d.val ∧ P d)) from ?_,
      Finset.sum_insert (by simp), add_comm]
    ext d
    simp only [Finset.mem_filter, Finset.mem_univ, true_and, Finset.mem_insert]
    constructor
    · rintro ⟨h1, h2⟩
      by_cases e : d = n
      · exact .inl e
      · exact .inr ⟨by have : d.val ≠ n.val := fun e' => e (Fin.ext e'); omega, h2⟩
    · rintro (rfl | ⟨h1, h2⟩)
      · exact ⟨le_rfl, h⟩
      · exact ⟨by omega, h2⟩
  · rw [if_neg h, add_zero]
    congr 1
    ext d
    simp only [Finset.mem_filter, Finset.mem_univ, true_and]
    constructor
    · rintro ⟨h1, h2⟩
      refine ⟨?_, h2⟩
      have : d.val ≠ n.val := fun e' => h ((Fin.ext e' : d = n) ▸ h2)
      omega
    · rintro ⟨h1, h2⟩; exact ⟨by omega, h2⟩

theorem Obar_peel (c : Dev nD) (n : Fin 16) : Obar c n.val = Obar c (n.val + 1) + if n.val < c.val then tallyAt (barCell n) () 1 else 0 :=
  sum_from_peel (fun d => d.val < c.val) (fun d => tallyAt (barCell d) () 1) n
theorem Orecv_peel (c : Dev nD) (n : Fin 16) : Orecv c n.val = Orecv c (n.val + 1) + if c.val < n.val then tallyAt (recvCell n c) () N else 0 :=
  sum_from_peel (fun t => c.val < t.val) (fun t => tallyAt (recvCell t c) () N) n
theorem Obar_last (c : Dev nD) : Obar c 15 = 0 := by
  refine Finset.sum_eq_zero fun d hd => ?_
  have h := (Finset.mem_filter.mp hd).2
  have := c.isLt; have := d.isLt
  exfalso
  have : (nD : ℕ) = 16 := rfl
  omega
theorem Orecv_last (c : Dev nD) : Orecv c 16 = 0 := by
  refine Finset.sum_eq_zero fun d hd => ?_
  have h := (Finset.mem_filter.mp hd).2
  have := d.isLt
  exfalso; omega
theorem Orecv_one (c : Dev nD) : Orecv c 1 = Orecv c 0 := by
  have := Orecv_peel c 0
  rw [show ((0 : Fin 16).val) = 0 from rfl, if_neg (Nat.not_lt_zero _), add_zero] at this
  exact this.symm

/-! ## The order of the waits -/

/-- The levels speak of the cells of the core alone. -/
def L (g : GSem nD τ sig) : Finset Unit := if g.1.2 = .tc then {()} else ∅
/-- A staging or send semaphore at 0, the barrier semaphore at 1, a receive semaphore at 2. -/
def lv (g : GSem nD τ sig) (_ : Unit) : ℕ := match g.2 with | .reg _ => 1 | .dma q => if kind q = 2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (j : Fin 16) (u : Unit) : lv (recvCell c j) u = 2 := if_pos (kind_recv j)

theorem Obar_pos {c : Dev nD} {n : ℕ} {g : GSem nD τ sig} {u : Unit} (h : 0 < Obar c n g u) : ∃ d : Dev nD, g = barCell d := by
  by_contra hn
  refine absurd h ?_
  unfold Obar
  rw [Finset.sum_apply, Finsupp.finset_sum_apply, Finset.sum_eq_zero]
  · exact Nat.lt_irrefl 0
  · intro d _
    rw [tallyAt_apply, if_neg fun h' => hn ⟨d, h'.1⟩]
theorem Orecv_pos {c : Dev nD} {n : ℕ} {g : GSem nD τ sig} {u : Unit} (h : 0 < Orecv c n g u) : ∃ t : Dev nD, g = recvCell t c := by
  by_contra hn
  refine absurd h ?_
  unfold Orecv
  rw [Finset.sum_apply, Finsupp.finset_sum_apply, Finset.sum_eq_zero]
  · exact Nat.lt_irrefl 0
  · intro d _
    rw [tallyAt_apply, if_neg fun h' => hn ⟨d, h'.1⟩]
theorem O₀_pos {c : Dev nD} {g : GSem nD τ sig} {u : Unit} (h : 0 < O₀ c g u) : (∃ d : Dev nD, g = barCell d) ∨ ∃ t : Dev nD, g = recvCell t c := by
  unfold O₀ at h
  rw [Pi.add_apply, Finsupp.add_apply] at h
  rcases Nat.eq_zero_or_pos (Orecv c 0 g u) with h0 | h0
  · rw [h0, Nat.zero_add] at h; exact .inl (Obar_pos h)
  · exact .inr (Orecv_pos h0)

omit [FloatOps F] in
/-- A staging semaphore may be waited for whatever the device owes. -/
theorem mayWait_stage (c : Dev nD) (q : DmaSem sig) (hq : kind q = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨t, rfl⟩ <;> exact Finset.mem_singleton_self _)
      (fun p hp => by rw [Finset.mem_singleton.mp hp]; show (if kind q = 2 then 2 else 0) ≤ 0; rw [if_neg (by rw [hq]; decide)])
      (fun g u hg => by
        rcases O₀_pos hg with ⟨d, rfl⟩ | ⟨t, rfl⟩
        · rw [lv_bar]; decide
        · rw [lv_recv]; decide)
  · rw [MayWait_zero]; iintro -; iempintro

omit [FloatOps F] in
/-- The barrier semaphore may be waited for while only landings are owed. -/
theorem mayWait_bar (c : Dev nD) (n : ℕ) : (levAts L lv : sProp 𝕄) ⊢ MayWait (c : Thread nD τ) (.reg barS) () (Orecv c n) :=
  MayOwe.of_cut (L := L) (lev := lv) 1 (fun p hp => by rw [Finset.mem_singleton.mp hp, L_tc]; exact Finset.mem_singleton_self _)
    (fun g u hg => by obtain ⟨t, rfl⟩ := Orecv_pos hg; exact Finset.mem_singleton_self _)
    (fun p hp => by rw [Finset.mem_singleton.mp hp]; exact Nat.le_refl 1)
    (fun g u hg => by obtain ⟨t, rfl⟩ := Orecv_pos hg; rw [lv_recv]; decide)

end Cert.KernelIdeal.Scan

end
-- ==== Proof.KernelIdealSteps.lean ====
/-
The phases of the body, one step of each: a family over the devices of which the entries below `n` are treated, and what
one guarded statement does to it.
-/
module

public import proofs.«01_k».proof.Proof.KernelIdealSchedule

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local notation "Stm" => Prog (TpuEff nD τ sig (Elt F) Λ₀ Proc.tc) Unit

variable (m : (ℓ : Loc nD τ sig) → Buf (Elt F) ℓ) (ρ : Dev nD → PrngReg)

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ p k Q
theorem WP_ret (c : Dev nD) {α : Type} (a : α) (Q : α → sProp 𝕄) :
    WP c (.ret a) Q = iprop(|={Set.univ}=> Q a) := rfl

theorem WP_frame (c : Dev nD) {α : Type} (p : Prog (TpuEff nD τ sig (Elt F) Λ₀ .tc) α) (Q : α → sProp 𝕄) (R : sProp 𝕄) :
    iprop(WP c p Q ∗ R) ⊢ WP c p fun a => iprop(Q a ∗ R) := wp_frame_r _ _ _
theorem WP_mono (c : Dev nD) {α : Type} (p : Prog (TpuEff nD τ sig (Elt F) Λ₀ .tc) α) (Q Q' : α → sProp 𝕄) (h : ∀ a, Q a ⊢ Q' a) :
    WP c p Q ⊢ WP c p Q' := wp_mono _ _ _ h

/-- A ghost step before the program. -/
theorem WP_upd (c : Dev nD) {P : sProp 𝕄} {α : Type} {p : Prog (TpuEff nD τ sig (Elt F) Λ₀ .tc) α} {Q : α → sProp 𝕄} (h : P ⊢ WP c p Q) :
    iprop(|={Set.univ}=> P) ⊢ WP c p Q := by
  iintro H
  imod H with HP
  iapply h $$ HP

/-- A piece of the body, framed and followed by the rest. -/
theorem WP_then (c : Dev nD) {P X R : sProp 𝕄} {p : Stm} {α : Type} {K : Prog (TpuEff nD τ sig (Elt F) Λ₀ .tc) α} {Q : α → sProp 𝕄}
    (hp : P ⊢ WP c p fun _ => X) (hk : iprop(X ∗ R) ⊢ WP c K Q) : iprop(P ∗ R) ⊢ WP c (p >>= fun _ => K) Q := by
  rw [WP_bind]
  exact (sep_mono_left hp).trans ((WP_frame c p _ R).trans (WP_mono c p _ _ fun _ => hk))

/-- The program asks for its device. -/
theorem WP_device (c : Dev nD) {P : sProp 𝕄} {α : Type} {k : Dev nD → Prog (TpuEff nD τ sig (Elt F) Λ₀ .tc) α} {Q : α → sProp 𝕄}
    (hk : P ⊢ WP c (k c) Q) : P ⊢ WP c (Prog.lift .deviceId >>= k) Q :=
  hk.trans (Entails.of_eq (wp_deviceId 𝒱₀ (c : Thread nD τ) none Set.univ).symm)

/-- A load of a whole buffer. -/
theorem WP_load (c : Dev nD) {s : Shape} {e : EltTy} {m : Memref sig .tc .vmem s e} {r : LoadRect s} {hl : m.view.LoadsAt r}
    {f : Buf (Elt F) (m.view.loc (c : Thread nD τ))} {v : r.shape.Idx → Elt F e} (hv : m.view.readAt (Elt F) r f = v)
    {α : Type} {k : (r.shape.Idx → Elt F e) → Prog (TpuEff nD τ sig (Elt F) Λ₀ .tc) α} {Q : α → sProp 𝕄} {R : sProp 𝕄}
    (hk : iprop((m.view.loc (c : Thread nD τ) ↦{fullShare} f) ∗ R) ⊢ WP c (k v) Q) :
    iprop((m.view.loc (c : Thread nD τ) ↦{fullShare} f) ∗ R) ⊢ WP c (Prog.lift (.load m r hl) >>= k) Q := by
  subst hv
  iintro ⟨Hx, HR⟩
  iapply (wp_load 𝒱₀ (c : Thread nD τ) none Set.univ (m := m) (Finset.subset_univ _)) $$ Hx
  iintro Hx
  iapply hk
  isplitl [Hx] <;> iassumption

/-- A store over a whole buffer. -/
theorem WP_store (c : Dev nD) {s : Shape} {e : EltTy} {m : Memref sig .tc .vmem s e} {r : Rect s} {w : r.shape.Idx → Elt F e}
    {hx : (m.access r).Stores Finset.univ} {hm : Finset.univ = (Finset.univ : Finset r.shape.Idx) ∨ ∀ a, r.stride a = 1}
    {f g : Buf (Elt F) (m.view.loc (c : Thread nD τ))} (hg : (m.access r).write (Elt F) f w Finset.univ = g)
    {α : Type} {k : PUnit → Prog (TpuEff nD τ sig (Elt F) Λ₀ .tc) α} {Q : α → sProp 𝕄} {R : sProp 𝕄}
    (hk : iprop((m.view.loc (c : Thread nD τ) ↦{fullShare} g) ∗ R) ⊢ WP c (k ⟨⟩) Q) :
    iprop((m.view.loc (c : Thread nD τ) ↦{fullShare} f) ∗ R) ⊢ WP c (Prog.lift (.store m r w Finset.univ hx hm) >>= k) Q := by
  subst hg
  iintro ⟨Hx, HR⟩
  iapply (wp_store 𝒱₀ (c : Thread nD τ) none Set.univ (m := m) (r := r) (Mk := Finset.univ) (Finset.subset_univ _)) $$ Hx
  iintro Hx
  iapply hk
  isplitl [Hx] <;> iassumption

/-! ## Families treated up to an index -/

/-- The family whose entries below `n` are `B`, the others `A`. -/
def fam (A B : Fin 16 → sProp 𝕄) (n : ℕ) : sProp 𝕄 := bigSep Finset.univ fun j : Fin 16 => if j.val < n then B j else A j

omit [FloatOps F] in
theorem fam_zero (A B : Fin 16 → sProp 𝕄) : fam A B 0 = bigSep Finset.univ A :=
  bigSep_congr fun j _ => if_neg (Nat.not_lt_zero _)
omit [FloatOps F] in
theorem fam_last (A B : Fin 16 → sProp 𝕄) : fam A B 16 = bigSep Finset.univ B :=
  bigSep_congr fun j _ => if_pos j.isLt
omit [FloatOps F] in
/-- Treating entry `n` touches that entry alone. -/
theorem fam_step (A B : Fin 16 → sProp 𝕄) (n : ℕ) (hn : n < 16) :
    ∃ R, fam A B n = iprop(A ⟨n, hn⟩ ∗ R) ∧ fam A B (n + 1) = iprop(B ⟨n, hn⟩ ∗ R) := by
  refine ⟨bigSep (Finset.univ.erase ⟨n, hn⟩) fun j : Fin 16 => if j.val < n then B j else A j, ?_, ?_⟩
  · unfold fam
    rw [bigSep_univ_at _ (⟨n, hn⟩ : Fin 16)]
    exact congrArg (fun P => iprop(P ∗ _)) (if_neg (Nat.lt_irrefl n))
  · unfold fam
    rw [bigSep_univ_at _ (⟨n, hn⟩ : Fin 16), bigSep_congr (s := Finset.univ.erase (⟨n, hn⟩ : Fin 16))
      (Ψ := fun j : Fin 16 => if j.val < n then B j else A j) fun j hj => ?_]
    · exact congrArg (fun P => iprop(P ∗ _)) (if_pos (Nat.lt_succ_self n))
    · have hne : j.val ≠ n := fun h => (Finset.mem_erase.mp hj).1 (Fin.ext h)
      by_cases h : j.val < n
      · rw [if_pos h, if_pos (by omega)]
      · rw [if_neg h, if_neg (by omega)]

/-- Entry `n` of a family treated without a statement. -/
theorem fam_ghost {A B : Fin 16 → sProp 𝕄} {X Y R : sProp 𝕄} (n : ℕ) (hn : n < 16)
    (hf : iprop(A ⟨n, hn⟩ ∗ X) ⊢ iprop(|={Set.univ}=> (B ⟨n, hn⟩ ∗ Y))) :
    iprop(fam A B n ∗ X ∗ R) ⊢ iprop(|={Set.univ}=> (fam A B (n + 1) ∗ Y ∗ R)) := by
  obtain ⟨R', h1, h2⟩ := fam_step A B n hn
  rw [h1, h2]
  iintro ⟨⟨HA, HR'⟩, HX, HR⟩
  ihave H := hf $$ [HA HX]
  · isplitl [HA] <;> iassumption
  imod H with ⟨HB, HY⟩
  imodintro
  isplitl [HB HR']
  · isplitl [HB] <;> iassumption
  isplitl [HY] <;> iassumption

/-- A guarded statement that treats entry `n` of a family, in front of the rest of the program. -/
theorem phase_step (c : Dev nD) {P : Prop} [Decidable P] {t : P → Stm} {A B : Fin 16 → sProp 𝕄}
    {X Y R : sProp 𝕄} (n : ℕ) (hn : n < 16)
    (ht : ∀ h, iprop(A ⟨n, hn⟩ ∗ X) ⊢ WP c (t h) fun _ => iprop(B ⟨n, hn⟩ ∗ Y))
    (hf : ¬ P → iprop(A ⟨n, hn⟩ ∗ X) ⊢ iprop(|={Set.univ}=> (B ⟨n, hn⟩ ∗ Y)))
    {α : Type} {K : Prog (TpuEff nD τ sig (Elt F) Λ₀ .tc) α} {Q : α → sProp 𝕄}
    (hk : iprop(fam A B (n + 1) ∗ Y ∗ R) ⊢ WP c K Q) :
    iprop(fam A B n ∗ X ∗ R) ⊢ WP c (if h : P then (t h >>= fun _ => K) else K) Q := by
  obtain ⟨R', h1, h2⟩ := fam_step A B n hn
  by_cases h : P
  · rw [dif_pos h, h1]
    refine BIBase.Entails.trans ?_ (WP_then c (R := iprop(R' ∗ R)) (ht h) (BIBase.Entails.trans ?_ hk))
    · iintro ⟨⟨HA, HR'⟩, HX, HR⟩
      isplitl [HA HX]
      · isplitl [HA] <;> iassumption
      isplitl [HR'] <;> iassumption
    · rw [h2]
      iintro ⟨⟨HB, HY⟩, HR', HR⟩
      isplitl [HB HR']
      · isplitl [HB] <;> iassumption
      isplitl [HY] <;> iassumption
  · rw [dif_neg h]
    refine BIBase.Entails.trans (fam_ghost n hn (hf h)) ?_
    exact WP_upd c hk

/-! ## What every device knows -/

/-- Semaphore `g` follows the schedule and its round 0 is reached. -/
def known (g : GSem nD τ sig) : sProp 𝕄 := iprop((∃ κ : ℕ, cellInv ER (scanRd m ρ) κ g) ∗ reached ER g 0)

instance known_persistent (g : GSem nD τ sig) : BI.Persistent (known m ρ g) := by unfold known; infer_instance

/-- So does every semaphore of the protocol. -/
def recs : sProp 𝕄 :=
  iprop((bigSep Finset.univ fun d : Dev nD => known m ρ (barCell d))
    ∗ (bigSep Finset.univ fun p : Dev nD × Fin 16 => known m ρ (sendCell p.1 p.2))
    ∗ bigSep Finset.univ fun p : Dev nD × Fin 16 => known m ρ (recvCell p.1 p.2))

instance recs_persistent : BI.Persistent (recs m ρ) := by unfold recs; infer_instance

theorem known_all {I : Type} [Fintype I] [DecidableEq I] (f : I → GSem nD τ sig) (i : I) : (bigSep Finset.univ fun i => known m ρ (f i)) ⊢ known m ρ (f i) :=
  bigSep_elim (Finset.mem_univ i)
theorem recs_bar (d : Dev nD) : recs m ρ ⊢ known m ρ (barCell d) := by
  unfold recs; iintro ⟨H, -, -⟩
  iapply (known_all m ρ barCell d) $$ H
theorem recs_send (d : Dev nD) (j : Fin 16) : recs m ρ ⊢ known m ρ (sendCell d j) := by
  unfold recs; iintro ⟨-, H, -⟩
  iapply (known_all m ρ (fun p : Dev nD × Fin 16 => sendCell p.1 p.2) (d, j)) $$ H
theorem recs_recv (d : Dev nD) (j : Fin 16) : recs m ρ ⊢ known m ρ (recvCell d j) := by
  unfold recs; iintro ⟨-, -, H⟩
  iapply (known_all m ρ (fun p : Dev nD × Fin 16 => recvCell p.1 p.2) (d, j)) $$ H

/-- What device `c` knows, and that it owes `O`. -/
def ctx (c : Dev nD) (O : CellTallies nD τ sig Unit) : sProp 𝕄 :=
  iprop(recs m ρ ∗ levAts L lv ∗ ∃ W, owes (c : Thread nD τ) O W)

/-! ## Signalling the devices before -/

/-- The token of the duty towards device `d` and the slot it hands over. -/
def sigA (c : Dev nD) (d : Fin 16) : sProp 𝕄 := iprop(dutyTok ER (barCell d) 0 c ∗ slotPts c d (zeros (F := F)))
/-- The slots the device keeps. -/
def sigB (c : Dev nD) (d : Fin 16) : sProp 𝕄 := if d.val < c.val then iprop(emp) else slotPts c d (zeros (F := F))

/-- One signal hands slot `d` to device `d`. -/
theorem sig_one (c d : Dev nD) (hd : d.val < c.val) (O : CellTallies nD τ sig Unit) :
    iprop(sigA (F := F) c d ∗ ctx m ρ c (O + tallyAt (barCell d) () 1))
      ⊢ WP c (semSignalWord d barS 1#32 : Stm) fun _ => iprop(sigB (F := F) c d ∗ ctx m ρ c O) := by
  simp only [semSignalWord, Prog.lift, Prog.bind_op, Prog.bind_ret, Prog.pure_eq_ret]
  unfold sigA sigB ctx
  rw [if_pos hd]
  iintro ⟨⟨Ht, Hs⟩, #HR, #HL, ⟨%W, HO⟩⟩
  ihave Hkn := (recs_bar m ρ d) $$ HR
  unfold known
  icases Hkn with ⟨⟨%κ, #HI⟩, #Hr⟩
  iapply (Rounds.wp_signal 𝒱₀ ER (scanRd m ρ) (c : Thread nD τ) none (dst := (d : Thread nD τ)) (κ := κ) (r := 0)
      (d := (c : Fin 16)) (by rw [duties_bar]; exact mem_later.mpr hd) ((amount_bar m ρ d c).trans (by decide)) () O rfl)
    $$ [HO Ht Hs]
  · isplitr; · iexact HI
    isplitl [HO]; · iexact HO
    isplitl [Ht]; · iexact Ht
    isplitl [Hs]; · rw [payload_bar]; iexists _; iexact Hs
    iexact Hr
  iintro HO
  rw [wp_ret]; imodintro
  isplitr; · iempintro
  isplitr; · iexact HR
  isplitr; · iexact HL
  iexists W; iexact HO

/-- One guarded signal. -/
theorem sig_step (c : Dev nD) {P : Prop} [Decidable P] {t : P → Stm} (n : ℕ) (hn : n < 16)
    (hP : P ↔ n < c.val) (ht : ∀ h, t h = (semSignalWord (⟨n, hn⟩ : Dev nD) barS 1#32 : Stm))
    {α : Type} {K : Prog (TpuEff nD τ sig (Elt F) Λ₀ .tc) α} {Q : α → sProp 𝕄} {R : sProp 𝕄}
    (hk : iprop(fam (sigA (F := F) c) (sigB (F := F) c) (n + 1) ∗ ctx m ρ c (Orecv c 0 + Obar c (n + 1)) ∗ R) ⊢ WP c K Q) :
    iprop(fam (sigA (F := F) c) (sigB (F := F) c) n ∗ ctx m ρ c (Orecv c 0 + Obar c n) ∗ R)
      ⊢ WP c (if h : P then (t h >>= fun _ => K) else K) Q := by
  have hO := Obar_peel c ⟨n, hn⟩
  dsimp only at hO
  refine phase_step c n hn (fun h => ?_) (fun h => ?_) hk
  · have hlt := hP.mp h
    rw [ht h, hO, if_pos hlt, ← add_assoc]
    exact sig_one m ρ c ⟨n, hn⟩ hlt _
  · have hlt : ¬ n < c.val := fun h' => h (hP.mpr h')
    rw [hO, if_neg hlt, add_zero]
    unfold sigA sigB
    rw [if_neg hlt]
    iintro ⟨⟨-, Hs⟩, HC⟩
    imodintro
    isplitl [Hs] <;> iassumption

/-! ## Waiting for the devices after -/

/-- Device `c` has treated the barrier waits below `n`: it has taken one unit for each later device below `n`, and holds
    the slots of those devices whose units came. -/
def barSt (c : Dev nD) (n : ℕ) : sProp 𝕄 :=
  iprop(∃ S : Finset (Fin 16), ⌜S ⊆ later c ∧ (n - 1 - c.val) + (later c \ S).card ≤ 15 - c.val⌝
    ∗ atPos ER (barCell c) 0 S (n - 1 - c.val) ∗ (bigSep S fun t => iprop(∃ f, slotPts (F := F) t c f))
    ∗ cred (tallyAt (barCell c) () (15 - c.val - (n - 1 - c.val))))

/-- One wait takes a unit and the slots that came with it. -/
theorem bar_one (c : Dev nD) (n : ℕ) (hn : n < 16) (hc : c.val < n) :
    iprop(barSt (F := F) c n ∗ ctx m ρ c (Orecv c 0))
      ⊢ WP c (semWaitWord barS 1#32 : Stm) fun _ => iprop(barSt (F := F) c (n + 1) ∗ ctx m ρ c (Orecv c 0)) := by
  have e1 : n + 1 - 1 - c.val = n - 1 - c.val + 1 := by omega
  have e2 : 15 - c.val - (n - 1 - c.val) = (15 - c.val - (n + 1 - 1 - c.val)) + 1 := by omega
  simp only [semWaitWord, Prog.lift, Prog.bind_op, Prog.bind_ret, Prog.pure_eq_ret]
  unfold barSt ctx
  rw [e2, ← tallyAt_add]
  iintro ⟨⟨%S, %hS, Hat, Hpay, Hc⟩, #HR, #HL, ⟨%W, HO⟩⟩
  ihave Hc' := (cred_add _ _).1 $$ Hc
  icases Hc' with ⟨Hc, Hc1⟩
  ihave Hkn := (recs_bar m ρ c) $$ HR
  unfold known
  icases Hkn with ⟨⟨%κ, #HI⟩, #Hr⟩
  iapply (Rounds.wp_wait 𝒱₀ ER (scanRd m ρ) (c : Thread nD τ) none (κ := κ)
      (wpE_semWait_eq 𝒱₀ (c : Thread nD τ) none Set.univ) (Set.mem_univ _) {(SemLoc.reg barS, ())} (cr := Finsupp.single () 1)
      (O := Orecv c 0) (W := W) (R := 0) (m := n - 1 - c.val) (T := S) (by rw [Util.total_single]; decide) (image_single_subset _ () 1)) $$ [Hc1 HO Hat]
  · isplitr; · iexact HI
    isplitl [Hc1]; · iexact Hc1
    isplitl [HO]; · iexact HO
    isplitr; · iapply (mayWait_bar c 0); iexact HL
    iexact Hat
  iintro %S' ⟨%hS', HO, Hat, Hpay'⟩
  rw [duties_bar, expect_bar] at hS'
  rw [wp_ret]; imodintro
  isplitl [Hat Hpay Hpay' Hc]
  · iexists S'
    isplitr; · ipureintro; exact ⟨hS'.2.1, by rw [e1]; exact hS'.2.2⟩
    isplitl [Hat]; · rw [e1]; iexact Hat
    isplitr [Hc]
    · iapply (show iprop((bigSep S fun t => iprop(∃ f, slotPts (F := F) t c f)) ∗ bigSep (S' \ S) fun t => iprop(∃ f, slotPts (F := F) t c f))
          ⊢ bigSep S' fun t => iprop(∃ f, slotPts (F := F) t c f) from Entails.of_eq (bigSep_sdiff_split hS'.1).symm)
      isplitl [Hpay]; · iexact Hpay
      iexact Hpay'
    · iexact Hc
  isplitr; · iexact HR
  isplitr; · iexact HL
  iexists _; iexact HO

/-- One guarded wait. -/
theorem bar_step (c : Dev nD) {P : Prop} [Decidable P] {t : P → Stm} (n : ℕ) (hn : n < 16)
    (hP : P ↔ c.val < n) (ht : ∀ h, t h = (semWaitWord barS 1#32 : Stm))
    {α : Type} {K : Prog (TpuEff nD τ sig (Elt F) Λ₀ .tc) α} {Q : α → sProp 𝕄} {R : sProp 𝕄}
    (hk : iprop(barSt (F := F) c (n + 1) ∗ ctx m ρ c (Orecv c 0) ∗ R) ⊢ WP c K Q) :
    iprop(barSt (F := F) c n ∗ ctx m ρ c (Orecv c 0) ∗ R) ⊢ WP c (if h : P then (t h >>= fun _ => K) else K) Q := by
  by_cases h : P
  · rw [dif_pos h, ht h]
    refine BIBase.Entails.trans ?_ (WP_then c (R := R) (bar_one m ρ c n hn (hP.mp h)) (BIBase.Entails.trans ?_ hk))
    · iintro ⟨HB, HC, HR⟩
      isplitl [HB HC]
      · isplitl [HB] <;> iassumption
      iexact HR
    · iintro ⟨⟨HB, HC⟩, HR⟩
      isplitl [HB]; · iexact HB
      isplitl [HC] <;> iassumption
  · have hlt : ¬ c.val < n := fun h' => h (hP.mpr h')
    rw [dif_neg h]
    refine BIBase.Entails.trans ?_ hk
    unfold barSt
    rw [show n + 1 - 1 - c.val = n - 1 - c.val by omega]

/-! ## Sending to the devices after -/

/-- The tokens of the copy to device `t`, the share of the column sums it reads, and the slot it writes. -/
def sendA (c : Dev nD) (t : Fin 16) : sProp 𝕄 :=
  iprop(dutyTok ER (sendCell c t) 0 0 ∗ dutyTok ER (recvCell t c) 0 0 ∗ srcPts m ρ c t
    ∗ if c.val < t.val then iprop(∃ f, slotPts (F := F) t c f) else iprop(emp))
/-- The credit of the copy under way, or the share kept. -/
def sendB (c : Dev nD) (t : Fin 16) : sProp 𝕄 := if c.val < t.val then cred (tallyAt (sendCell c t) () N) else srcPts m ρ c t

/-- One copy: the share of the column sums and the slot are under way. -/
theorem send_one (c t : Dev nD) (hct : c.val < t.val) (O : CellTallies nD τ sig Unit) {q q' : DmaSem sig} (hq : q = sendS t) (hq' : q' = recvS c)
    {off : Fin 3 → Nat} {h : ∀ a, off a + S1x1x512.size a ≤ S16x1x512.size a} (ho : off = ![c.val, 0, 0])
    {hsc : (cut off h : Memref sig (Dev.tc t : Thread nD τ).2.kind .vmem S1x512 .f32).view.ref.isScScratch = false}
    {hsrc : (sM : Memref sig .tc .vmem S1x512 .f32).view.WordExact} {hdst : (cut off h).view.WordExact}
    {hsem : DmaTarget.Typed .vmem (.dma q') (.remote (Dev.tc t : Thread nD τ) (cut off h) (.dma q) hsc)} :
    iprop(sendA m ρ c t ∗ ctx m ρ c (O + tallyAt (recvCell t c) () N))
      ⊢ WP c (Prog.lift (.enqueueDma sM (.remote (Dev.tc t : Thread nD τ) (cut off h) (.dma q) hsc) (.dma q') hsrc hdst hsem) : Stm)
          fun _ => iprop(sendB m ρ c t ∗ ctx m ρ c O) := by
  subst hq hq'
  simp only [Prog.lift, Prog.bind_op, Prog.bind_ret, Prog.pure_eq_ret]
  unfold sendA sendB ctx
  rw [if_pos hct, if_pos hct]
  iintro ⟨⟨HtS, HtV, Hx, ⟨%f, Hs⟩⟩, #HR, #HL, ⟨%W, HO⟩⟩
  ihave Hkn := (recs_send m ρ c t) $$ HR
  ihave Hkn' := (recs_recv m ρ t c) $$ HR
  unfold known
  icases Hkn with ⟨⟨%κ, #HI⟩, #Hr⟩
  icases Hkn' with ⟨⟨%κ', #HI'⟩, #Hr'⟩
  have hs : ((cut off h).view.loc (t : Thread nD τ) ↦[(cut off h).view.set]{fullShare} f : sProp 𝕄) = slotPts t c f := by
    unfold slotPts; rw [cut_set c off h ho]
  have hx : ((sM : Memref sig .tc .vmem S1x512 .f32).view.loc (c : Thread nD τ) ↦[(sM : Memref sig .tc .vmem S1x512 .f32).view.set]{ShareLeaves.leaf 4 fullShare t} col m ρ c : sProp 𝕄) = srcPts m ρ c t := by
    unfold srcPts; rw [View.set_whole]
  have hl : ((cut off h).view.loc (t : Thread nD τ) ↦[(cut off h).view.set]{fullShare}
      (cut off h).view.write (Elt F) f (sM.view.read (Elt F) (col m ρ c)) Finset.univ : sProp 𝕄) = slotPts t c (tot m ρ t) := by
    unfold slotPts; rw [cut_set c off h ho]
    exact pointsTo_congr fun i hi => landed m ρ c t hct off h ho f i hi
  ihave Hs' := (Entails.of_eq hs.symm) $$ Hs
  ihave Hx' := (Entails.of_eq hx.symm) $$ Hx
  iapply (Rounds.wp_send_pointsTo 𝒱₀ ER (scanRd m ρ) (c : Thread nD τ) none (κ₁ := κ) (κ₂ := κ')
    (r₁ := 0) (r₂ := 0) (d₁ := (0 : Fin 16)) (d₂ := (0 : Fin 16)) (fd := f)
    (by rw [duties_send m ρ c t hct]; exact Finset.mem_singleton_self _) (by rw [duties_recv m ρ t c hct]; exact Finset.mem_singleton_self _)
    () () N (by exact cut_credit off h) (amount_send m ρ c t 0) (amount_recv m ρ t c 0) O rfl (W := W)
    (by rw [payload_send, hx]) (by rw [payload_recv, hl])) $$ [HtS HtV Hx' Hs' HO]
  · isplitr; · iexact HI
    isplitr; · iexact HI'
    isplitl [Hx']; · iexact Hx'
    isplitl [Hs']; · iexact Hs'
    isplitl [HO]; · iexact HO
    isplitl [HtS]; · iexact HtS
    isplitr; · iexact Hr
    isplitl [HtV]; · iexact HtV
    iexact Hr'
  iintro ⟨Hc, HO⟩
  rw [wp_ret]; imodintro
  isplitl [Hc]; · iexact Hc
  isplitr; · iexact HR
  isplitr; · iexact HL
  iexists W; iexact HO

/-- Offset `c` of the table leaves room for a slot. -/
theorem slot_inb (c : Fin 16) {off : Fin 3 → Nat} (ho : off = ![c.val, 0, 0]) : ∀ a, off a + S1x1x512.size a ≤ S16x1x512.size a := by
  subst ho; revert c; decide
/-- Offset `c` of an array of semaphores leaves room for one. -/
theorem sem_inb (c : Fin 16) {off : Fin 1 → Nat} (ho : off = ![c.val]) : ∀ a, off a + S1.size a ≤ S16.size a := by
  subst ho; revert c; decide

/-- One guarded copy. -/
theorem send_step (c : Dev nD) {P : Prop} [Decidable P] {t : P → Stm} (n : ℕ) (hn : n < 16)
    {off : Fin 3 → Nat} (ho : off = ![c.val, 0, 0]) {off' : Fin 1 → Nat} (ho' : off' = ![c.val])
    (hP : P ↔ c.val < n)
    (ht : ∀ p, t p = (Prog.lift (.enqueueDma sM (.remote (Dev.tc (⟨n, hn⟩ : Dev nD) : Thread nD τ) (cut off (slot_inb c ho))
        (.dma (cutSem cc0_scratch2 ![n] (sem_inb ⟨n, hn⟩ rfl)))) (.dma (cutSem cc0_scratch3 off' (sem_inb c ho')))
        (Memref.isWhole_whole _).wordExact ((View.wordExact_bits rfl).reshape _ _) ⟨⟨rfl, Or.inl rfl⟩, trivial⟩) : Stm))
    {α : Type} {K : Prog (TpuEff nD τ sig (Elt F) Λ₀ .tc) α} {Q : α → sProp 𝕄} {R : sProp 𝕄}
    (hk : iprop(fam (sendA m ρ c) (sendB m ρ c) (n + 1) ∗ ctx m ρ c (Orecv c (n + 1)) ∗ R) ⊢ WP c K Q) :
    iprop(fam (sendA m ρ c) (sendB m ρ c) n ∗ ctx m ρ c (Orecv c n) ∗ R) ⊢ WP c (if h : P then (t h >>= fun _ => K) else K) Q := by
  have hO := Orecv_peel c ⟨n, hn⟩
  dsimp only at hO
  refine phase_step c n hn (fun p => ?_) (fun p => ?_) hk
  · have hlt := hP.mp p
    rw [ht p, hO, if_pos hlt]
    exact send_one m ρ c ⟨n, hn⟩ hlt _ (cut_send ⟨n, hn⟩ _ _ rfl) (cut_recv c _ _ ho') ho
  · have hlt : ¬ c.val < n := fun h' => p (hP.mpr h')
    rw [hO, if_neg hlt, add_zero]
    unfold sendA sendB
    rw [if_neg hlt, if_neg hlt]
    iintro ⟨⟨-, -, Hs, -⟩, HC⟩
    imodintro
    isplitl [Hs] <;> iassumption

/-! ## Waiting for the copies of the devices before -/

/-- The position at receive semaphore `j`, with the credit of the copy to come or the slot at zeros. -/
def recvA (c : Dev nD) (j : Fin 16) : sProp 𝕄 :=
  iprop(atPos ER (recvCell c j) 0 ∅ 0 ∗ if j.val < c.val then cred (tallyAt (recvCell c j) () N) else slotPts c j (zeros (F := F)))
/-- The semaphore at zero and the slot at its final contents. -/
def recvB (c : Dev nD) (j : Fin 16) : sProp 𝕄 := iprop(semVal (recvCell c j) 0 ∗ slotPts c j (tot m ρ c))

theorem recv_skip (c : Dev nD) (j : Fin 16) (h : ¬ j.val < c.val) (O : CellTallies nD τ sig Unit) :
    iprop(recvA (F := F) c j ∗ ctx m ρ c O) ⊢ |={Set.univ}=> iprop(recvB m ρ c j ∗ ctx m ρ c O) := by
  unfold recvA recvB ctx
  rw [if_neg h]
  iintro ⟨⟨Hat, Hs⟩, #HR, HC⟩
  ihave Hkn := (recs_recv m ρ c j) $$ HR
  unfold known
  icases Hkn with ⟨⟨%κ, #HI⟩, -⟩
  imod (Rounds.cell_close ER (scanRd m ρ) (Set.mem_univ κ) (fun h => h) (R := 0) (g := recvCell c j) (fun r _ => by
    rcases Nat.eq_zero_or_pos r with rfl | hr
    · exact duties_recv_none m ρ c j h
    · exact duties_later m ρ _ r hr)) $$ [Hat] with Hz
  · isplitr; · iexact HI
    iexact Hat
  imodintro
  isplitl [Hz Hs]
  · isplitl [Hz]; · iexact Hz
    iapply (Entails.of_eq (slot_zeros m ρ c j h)) $$ Hs
  isplitr; · iexact HR
  iexact HC

/-- One wait takes slot `j` as device `j` filled it. -/
theorem recv_one (c : Dev nD) (j : Fin 16) (hj : j.val < c.val) {q : DmaSem sig} (hq : q = recvS j)
    {off : Fin 3 → Nat} {h : ∀ a, off a + S1x1x512.size a ≤ S16x1x512.size a}
    {hsrc : (sM : Memref sig .tc .vmem S1x512 .f32).view.WordExact} {hdst : (cut off h).view.WordExact} :
    iprop(recvA (F := F) c j ∗ ctx m ρ c 0) ⊢ WP c (Prog.lift (.waitDma2 q sM (cut off h) hsrc hdst) : Stm)
      fun _ => iprop(recvB m ρ c j ∗ ctx m ρ c 0) := by
  subst hq
  simp only [Prog.lift, Prog.bind_op, Prog.bind_ret, Prog.pure_eq_ret]
  unfold recvA recvB ctx
  rw [if_pos hj]
  iintro ⟨⟨Hat, Hc⟩, #HR, #HL, ⟨%W, HO⟩⟩
  ihave Hkn := (recs_recv m ρ c j) $$ HR
  unfold known
  icases Hkn with ⟨⟨%κ, #HI⟩, -⟩
  iapply (Rounds.wp_wait_rest_token 𝒱₀ ER (scanRd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m ρ c j hj])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_recv m ρ c j hj)) $$ Hpay
  imod (Rounds.cell_close ER (scanRd m ρ) (Set.mem_univ κ) (fun h => h) (R := 0 + 1) (duties_later m ρ (recvCell c j))) $$ [Hat] with Hz
  · isplitr; · iexact HI
    iexact Hat
  rw [wp_ret]; imodintro
  isplitl [Hz Hs]
  · isplitl [Hz] <;> iassumption
  isplitr; · iexact HR
  isplitr; · iexact HL
  iexists _; iexact HO

/-- One guarded wait. -/
theorem recv_step (c : Dev nD) {P : Prop} [Decidable P] {t : P → Stm} (n : ℕ) (hn : n < 16)
    (hP : P ↔ n < c.val)
    (ht : ∀ p, t p = (Prog.lift (.waitDma2 (cutSem cc0_scratch3 ![n] (sem_inb ⟨n, hn⟩ rfl)) sM (cut ![n, 0, 0] (slot_inb ⟨n, hn⟩ rfl))
        (Memref.isWhole_whole _).wordExact ((View.wordExact_bits rfl).reshape _ _)) : Stm))
    {α : Type} {K : Prog (TpuEff nD τ sig (Elt F) Λ₀ .tc) α} {Q : α → sProp 𝕄} {R : sProp 𝕄}
    (hk : iprop(fam (recvA (F := F) c) (recvB m ρ c) (n + 1) ∗ ctx m ρ c 0 ∗ R) ⊢ WP c K Q) :
    iprop(fam (recvA (F := F) c) (recvB m ρ c) n ∗ ctx m ρ c 0 ∗ R) ⊢ WP c (if h : P then (t h >>= fun _ => K) else K) Q := by
  refine phase_step c n hn (fun p => ?_) (fun p => ?_) hk
  · rw [ht p]; exact recv_one m ρ c ⟨n, hn⟩ (hP.mp p) (cut_recv ⟨n, hn⟩ _ _ rfl)
  · exact recv_skip m ρ c ⟨n, hn⟩ (fun h' => p (hP.mpr h')) 0

/-! ## Waiting for its own copies to leave -/

/-- The position at send semaphore `t`, with the credit of the copy under way or the share kept. -/
def backA (c : Dev nD) (t : Fin 16) : sProp 𝕄 := iprop(atPos ER (sendCell c t) 0 ∅ 0 ∗ sendB m ρ c t)
/-- The semaphore at zero and the share. -/
def backB (c : Dev nD) (t : Fin 16) : sProp 𝕄 := iprop(semVal (sendCell c t) 0 ∗ srcPts m ρ c t)

theorem back_skip (c : Dev nD) (t : Fin 16) (h : ¬ c.val < t.val) (O : CellTallies nD τ sig Unit) :
    iprop(backA m ρ c t ∗ ctx m ρ c O) ⊢ |={Set.univ}=> iprop(backB m ρ c t ∗ ctx m ρ c O) := by
  unfold backA backB sendB ctx
  rw [if_neg h]
  iintro ⟨⟨Hat, Hs⟩, #HR, HC⟩
  ihave Hkn := (recs_send m ρ c t) $$ HR
  unfold known
  icases Hkn with ⟨⟨%κ, #HI⟩, -⟩
  imod (Rounds.cell_close ER (scanRd m ρ) (Set.mem_univ κ) (fun h => h) (R := 0) (g := sendCell c t) (fun r _ => by
    rcases Nat.eq_zero_or_pos r with rfl | hr
    · exact duties_send_none m ρ c t h
    · exact duties_later m ρ _ r hr)) $$ [Hat] with Hz
  · isplitr; · iexact HI
    iexact Hat
  imodintro
  isplitl [Hz Hs]
  · isplitl [Hz] <;> iassumption
  isplitr; · iexact HR
  iexact HC

/-- One wait takes the share back. -/
theorem back_one (c : Dev nD) (t : Fin 16) (hct : c.val < t.val) {q : DmaSem sig} (hq : q = sendS t)
    {off : Fin 3 → Nat} {h : ∀ a, off a + S1x1x512.size a ≤ S16x1x512.size a}
    {hdst : (sM : Memref sig .tc .vmem S1x512 .f32).view.WordExact} {hsrc : (cut off h).view.WordExact} :
    iprop(backA m ρ c t ∗ ctx m ρ c 0) ⊢ WP c (Prog.lift (.waitDma2 q (cut off h) sM hsrc hdst) : Stm)
      fun _ => iprop(backB m ρ c t ∗ ctx m ρ c 0) := by
  subst hq
  simp only [Prog.lift, Prog.bind_op, Prog.bind_ret, Prog.pure_eq_ret]
  unfold backA backB sendB ctx
  rw [if_pos hct]
  iintro ⟨⟨Hat, Hc⟩, #HR, #HL, ⟨%W, HO⟩⟩
  ihave Hkn := (recs_send m ρ c t) $$ HR
  unfold known
  icases Hkn with ⟨⟨%κ, #HI⟩, -⟩
  iapply (Rounds.wp_wait_rest_token 𝒱₀ ER (scanRd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_send m ρ c t hct])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_send m ρ c t hct)) $$ Hpay
  imod (Rounds.cell_close ER (scanRd m ρ) (Set.mem_univ κ) (fun h => h) (R := 0 + 1) (duties_later m ρ (sendCell c t))) $$ [Hat] with Hz
  · isplitr; · iexact HI
    iexact Hat
  rw [wp_ret]; imodintro
  isplitl [Hz Hs]
  · isplitl [Hz] <;> iassumption
  isplitr; · iexact HR
  isplitr; · iexact HL
  iexists _; iexact HO

/-- One guarded wait. -/
theorem back_step (c : Dev nD) {P : Prop} [Decidable P] {t : P → Stm} (n : ℕ) (hn : n < 16)
    (hP : P ↔ c.val < n)
    (ht : ∀ p, t p = (Prog.lift (.waitDma2 (cutSem cc0_scratch2 ![n] (sem_inb ⟨n, hn⟩ rfl)) (cut ![0, 0, 0] (slot_inb 0 rfl)) sM
        ((View.wordExact_bits rfl).reshape _ _) (Memref.isWhole_whole _).wordExact) : Stm))
    {α : Type} {K : Prog (TpuEff nD τ sig (Elt F) Λ₀ .tc) α} {Q : α → sProp 𝕄} {R : sProp 𝕄}
    (hk : iprop(fam (backA m ρ c) (backB m ρ c) (n + 1) ∗ ctx m ρ c 0 ∗ R) ⊢ WP c K Q) :
    iprop(fam (backA m ρ c) (backB m ρ c) n ∗ ctx m ρ c 0 ∗ R) ⊢ WP c (if h : P then (t h >>= fun _ => K) else K) Q := by
  refine phase_step c n hn (fun p => ?_) (fun p => ?_) hk
  · rw [ht p]; exact back_one m ρ c ⟨n, hn⟩ (hP.mp p) (cut_send ⟨n, hn⟩ _ _ rfl)
  · exact back_skip m ρ c ⟨n, hn⟩ (fun h' => p (hP.mpr h')) 0

end Cert.KernelIdeal.Scan

end
-- ==== Proof.KernelIdealParts.lean ====
/-
The parts of the body, each as the phases' steps in program order.
-/
module

public import proofs.«01_k».proof.Proof.KernelIdealSteps

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Stm" => Prog (TpuEff nD τ sig (Elt F) Λ₀ Proc.tc) Unit

variable (m : (ℓ : Loc nD τ sig) → Buf (Elt F) ℓ) (ρ : Dev nD → PrngReg)

/-! ## The guards -/

/-- The device's number as the program computes it. -/
abbrev word (c : Dev nD) : BitVec 32 := Scalar.remsi (Scalar.divsi (Dev.word c) 1#32) 16#32

/-- The guard "the device comes before `n`". -/
theorem before_iff (n : ℕ) (hn : n < 16) (c : Dev nD) :
    (Scalar.cmpi .ne (Scalar.extui (Scalar.cmpi .slt (word c) (BitVec.ofNat 32 n)) : BitVec 32) 0#32 = 1#1) ↔ c.val < n := by
  have h : ∀ (t : Fin 16) (c : Dev nD),
      (Scalar.cmpi .ne (Scalar.extui (Scalar.cmpi .slt (word c) (BitVec.ofNat 32 t.val)) : BitVec 32) 0#32 = 1#1) ↔ c.val < t.val := by decide
  exact h ⟨n, hn⟩ c
/-- The guard "the device comes after `n`". -/
theorem after_iff (n : ℕ) (hn : n < 16) (c : Dev nD) :
    (Scalar.cmpi .ne (Scalar.extui (Scalar.cmpi .sgt (word c) (BitVec.ofNat 32 n)) : BitVec 32) 0#32 = 1#1) ↔ n < c.val := by
  have h : ∀ (t : Fin 16) (c : Dev nD),
      (Scalar.cmpi .ne (Scalar.extui (Scalar.cmpi .sgt (word c) (BitVec.ofNat 32 t.val)) : BitVec 32) 0#32 = 1#1) ↔ t.val < c.val := by decide
  exact h ⟨n, hn⟩ c

variable (c : Dev nD)

/-! ## The whole buffers -/

theorem hz2 : (![0, 0] : Fin 2 → Nat) = fun _ => 0 := by decide
theorem hz3 : (![0, 0, 0] : Fin 3 → Nat) = fun _ => 0 := by decide

/-- The table of device `c` at contents `f`, its column sums, its block of the input, its block of the result. -/
abbrev tPts (f : (cc0_scratch1 : Ref sig .tc).ty.Contents (Elt F)) : sProp 𝕄 := ((c : Thread nD τ).loc cc0_scratch1) ↦{fullShare} f
abbrev sPts (f : (cc0_scratch0 : Ref sig .tc).ty.Contents (Elt F)) : sProp 𝕄 := ((c : Thread nD τ).loc cc0_scratch0) ↦{fullShare} f
abbrev xPts (f : (cc0_stg0_0 : Ref sig .tc).ty.Contents (Elt F)) : sProp 𝕄 := ((c : Thread nD τ).loc cc0_stg0_0) ↦{fullShare} f
abbrev oPts (f : (cc0_stg1_0 : Ref sig .tc).ty.Contents (Elt F)) : sProp 𝕄 := ((c : Thread nD τ).loc cc0_stg1_0) ↦{fullShare} f

/-- The tokens of the duties towards the devices before. -/
def sigToks : sProp 𝕄 := bigSep Finset.univ fun d : Fin 16 => dutyTok ER (barCell d) 0 c

/-- The zeroed table with the tokens is what the signals start from. -/
theorem sig_start : iprop(tPts (F := F) c zeros ∗ sigToks c) ⊢ fam (sigA (F := F) c) (sigB (F := F) c) 0 := by
  rw [fam_zero]
  unfold sigToks sigA
  rw [bigSep_sep', tPts, table_eq]
  iintro ⟨Ht, Hs⟩
  isplitl [Hs] <;> iassumption

/-- Part 1: the table zeroed, then the signals to devices 0 to 6. -/
theorem part1 {Q : (Σ' (d0 : Dev nD) (v2 : BitVec 32) (v7 : Sems sig S_), BitVec 1) → sProp 𝕄} {R : sProp 𝕄} (f)
    (hk : iprop(fam (sigA (F := F) c) (sigB (F := F) c) 7 ∗ ctx m ρ c (Orecv c 0 + Obar c 7) ∗ R)
      ⊢ Q ⟨c, word c, SemArray.scalar (sig.barrier 0 rfl), Scalar.cmpi .sgt (word c) 7#32⟩) :
    iprop(tPts (F := F) c f ∗ sigToks c ∗ ctx m ρ c (Orecv c 0 + Obar c 0) ∗ R)
      ⊢ WP c (k0_part1_skel xM (Memref.isWhole_whole _) oM (Memref.isWhole_whole _) sM (Memref.isWhole_whole _) tM (Memref.isWhole_whole _)
          cc0_scratch2 cc0_scratch3) Q := by
  unfold k0_part1_skel
  refine WP_device c ?_
  refine WP_load c (m := tM) (f := f) (v := f) (by exact Memref.readAt_unit_zero (Elt F) cc0_scratch1 hz3 _ f) ?_
  refine WP_store c (m := tM) (f := f) (g := zeros) (by exact Memref.write_access_unit_zero_univ (Elt F) cc0_scratch1 hz3 _ f _) ?_
  refine BIBase.Entails.trans (Q := iprop(fam (sigA (F := F) c) (sigB (F := F) c) 0 ∗ ctx m ρ c (Orecv c 0 + Obar c 0) ∗ R)) ?_ ?_
  · iintro ⟨Ht, Htok, HC, HR⟩
    isplitl [Ht Htok]
    · iapply (sig_start c) $$ [Ht Htok]
      isplitl [Ht] <;> iassumption
    isplitl [HC] <;> iassumption
  extract_lets _ _ j6 j5 j4 j3 j2 j1 j0
  refine sig_step m ρ c 0 (by decide) (by exact after_iff 0 (by decide) c) (by exact fun _ => rfl) ?_
  unfold j0
  refine sig_step m ρ c 1 (by decide) (by exact after_iff 1 (by decide) c) (by exact fun _ => rfl) ?_
  unfold j1
  refine sig_step m ρ c 2 (by decide) (by exact after_iff 2 (by decide) c) (by exact fun _ => rfl) ?_
  unfold j2
  refine sig_step m ρ c 3 (by decide) (by exact after_iff 3 (by decide) c) (by exact fun _ => rfl) ?_
  unfold j3
  refine sig_step m ρ c 4 (by decide) (by exact after_iff 4 (by decide) c) (by exact fun _ => rfl) ?_
  unfold j4
  refine sig_step m ρ c 5 (by decide) (by exact after_iff 5 (by decide) c) (by exact fun _ => rfl) ?_
  unfold j5
  refine sig_step m ρ c 6 (by decide) (by exact after_iff 6 (by decide) c) (by exact fun _ => rfl) ?_
  unfold j6
  exact hk.trans fupd_intro

/-- Part 2: the signals to devices 7 to 14, then the column sums of the block. -/
theorem part2 {Q : (Σ' (v54 : FVec F S512x512 .f32), BitVec 32) → sProp 𝕄} {R : sProp 𝕄} (v29 : BitVec 1) (f)
    (hk : iprop(sPts c (col m ρ c) ∗ xPts c (xstg m ρ c) ∗ fam (sigA (F := F) c) (sigB (F := F) c) 15 ∗ ctx m ρ c (Orecv c 0 + Obar c 15) ∗ R)
      ⊢ Q ⟨k0_pay2 (xstg m ρ c), 1#32⟩) :
    iprop(fam (sigA (F := F) c) (sigB (F := F) c) 7 ∗ ctx m ρ c (Orecv c 0 + Obar c 7) ∗ xPts c (xstg m ρ c) ∗ sPts c f ∗ R)
      ⊢ WP c (k0_part2_skel xM (Memref.isWhole_whole _) oM (Memref.isWhole_whole _) sM (Memref.isWhole_whole _) tM (Memref.isWhole_whole _)
          cc0_scratch2 cc0_scratch3 c (word c) (SemArray.scalar (sig.barrier 0 rfl)) v29) Q := by
  unfold k0_part2_skel
  extract_lets j14 j13 j12 j11 j10 j9 j8 j7
  refine sig_step m ρ c 7 (by decide) (by exact after_iff 7 (by decide) c) (by exact fun _ => rfl) ?_
  unfold j7
  refine sig_step m ρ c 8 (by decide) (by exact after_iff 8 (by decide) c) (by exact fun _ => rfl) ?_
  unfold j8
  refine sig_step m ρ c 9 (by decide) (by exact after_iff 9 (by decide) c) (by exact fun _ => rfl) ?_
  unfold j9
  refine sig_step m ρ c 10 (by decide) (by exact after_iff 10 (by decide) c) (by exact fun _ => rfl) ?_
  unfold j10
  refine sig_step m ρ c 11 (by decide) (by exact after_iff 11 (by decide) c) (by exact fun _ => rfl) ?_
  unfold j11
  refine sig_step m ρ c 12 (by decide) (by exact after_iff 12 (by decide) c) (by exact fun _ => rfl) ?_
  unfold j12
  refine sig_step m ρ c 13 (by decide) (by exact after_iff 13 (by decide) c) (by exact fun _ => rfl) ?_
  unfold j13
  refine sig_step m ρ c 14 (by decide) (by exact after_iff 14 (by decide) c) (by exact fun _ => rfl) ?_
  unfold j14
  refine BIBase.Entails.trans (Q := iprop(xPts c (xstg m ρ c) ∗ sPts c f ∗ fam (sigA (F := F) c) (sigB (F := F) c) 15 ∗ ctx m ρ c (Orecv c 0 + Obar c 15) ∗ R)) ?_ ?_
  · iintro ⟨HA, HC, Hx, Hs, HR⟩
    isplitl [Hx]; · iexact Hx
    isplitl [Hs]; · iexact Hs
    isplitl [HA]; · iexact HA
    isplitl [HC] <;> iassumption
  refine WP_load c (m := xM) (f := xstg m ρ c) (v := xstg m ρ c) (by exact Memref.readAt_unit_zero (Elt F) cc0_stg0_0 hz2 _ _) ?_
  refine BIBase.Entails.trans (Q := iprop(sPts c f ∗ xPts c (xstg m ρ c) ∗ fam (sigA (F := F) c) (sigB (F := F) c) 15 ∗ ctx m ρ c (Orecv c 0 + Obar c 15) ∗ R)) ?_ ?_
  · iintro ⟨Hx, Hs, HR⟩
    isplitl [Hs]; · iexact Hs
    isplitl [Hx] <;> iassumption
  refine WP_load c (m := sM) (f := f) (v := f) (by exact Memref.readAt_unit_zero (Elt F) cc0_scratch0 hz2 _ _) ?_
  refine WP_store c (m := sM) (f := f) (g := col m ρ c) (by exact Memref.write_access_unit_zero_univ (Elt F) cc0_scratch0 hz2 _ f _) ?_
  exact hk.trans fupd_intro

/-- Part 3: the barrier waits 1 to 10. -/
theorem part3 {Q : BitVec 32 → sProp 𝕄} {R : sProp 𝕄}
    (hk : iprop(barSt (F := F) c 11 ∗ ctx m ρ c (Orecv c 0) ∗ R) ⊢ Q 11#32) :
    iprop(barSt (F := F) c 1 ∗ ctx m ρ c (Orecv c 0) ∗ R)
      ⊢ WP c (k0_part3_skel xM (Memref.isWhole_whole _) oM (Memref.isWhole_whole _) sM (Memref.isWhole_whole _) tM (Memref.isWhole_whole _)
          cc0_scratch2 cc0_scratch3 (word c) (SemArray.scalar (sig.barrier 0 rfl)) 1#32) Q := by
  unfold k0_part3_skel
  extract_lets _ _ _ _ _ _ _ _ _ _ _ _ _ _ _ _ _ _ _ _ _ _ _ _ _ _ _ _ _ _ j10 j9 j8 j7 j6 j5 j4 j3 j2 j1
  refine bar_step m ρ c 1 (by decide) (by exact before_iff 1 (by decide) c) (by exact fun _ => rfl) ?_
  unfold j1
  refine bar_step m ρ c 2 (by decide) (by exact before_iff 2 (by decide) c) (by exact fun _ => rfl) ?_
  unfold j2
  refine bar_step m ρ c 3 (by decide) (by exact before_iff 3 (by decide) c) (by exact fun _ => rfl) ?_
  unfold j3
  refine bar_step m ρ c 4 (by decide) (by exact before_iff 4 (by decide) c) (by exact fun _ => rfl) ?_
  unfold j4
  refine bar_step m ρ c 5 (by decide) (by exact before_iff 5 (by decide) c) (by exact fun _ => rfl) ?_
  unfold j5
  refine bar_step m ρ c 6 (by decide) (by exact before_iff 6 (by decide) c) (by exact fun _ => rfl) ?_
  unfold j6
  refine bar_step m ρ c 7 (by decide) (by exact before_iff 7 (by decide) c) (by exact fun _ => rfl) ?_
  unfold j7
  refine bar_step m ρ c 8 (by decide) (by exact before_iff 8 (by decide) c) (by exact fun _ => rfl) ?_
  unfold j8
  refine bar_step m ρ c 9 (by decide) (by exact before_iff 9 (by decide) c) (by exact fun _ => rfl) ?_
  unfold j9
  refine bar_step m ρ c 10 (by decide) (by exact before_iff 10 (by decide) c) (by exact fun _ => rfl) ?_
  unfold j10
  exact hk.trans fupd_intro

end Cert.KernelIdeal.Scan

end
-- ==== Proof.KernelIdealPhases.lean ====
/-
What each phase of the body starts from and what it leaves.
-/
module

public import proofs.«01_k».proof.Proof.KernelIdealParts

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Stm" => Prog (TpuEff nD τ sig (Elt F) Λ₀ Proc.tc) Unit

variable (m : (ℓ : Loc nD τ sig) → Buf (Elt F) ℓ) (ρ : Dev nD → PrngReg)

variable (c : Dev nD)

/-- Entry 15 of the signals: no device comes after the last. -/
theorem sig_end {R : sProp 𝕄} :
    iprop(fam (sigA (F := F) c) (sigB (F := F) c) 15 ∗ ctx m ρ c (Orecv c 0 + Obar c 15) ∗ R)
      ⊢ |={Set.univ}=> iprop((bigSep Finset.univ fun d : Fin 16 => sigB (F := F) c d) ∗ ctx m ρ c (Orecv c 0) ∗ R) := by
  have h := fam_ghost (A := sigA (F := F) c) (B := sigB (F := F) c) (X := ctx m ρ c (Orecv c 0 + Obar c 15)) (Y := ctx m ρ c (Orecv c 0)) (R := R)
    15 (by decide) (by
      have hlt : ¬ (15 : ℕ) < c.val := by have := c.isLt; show ¬ (15 : ℕ) < c.val; change c.val < 16 at this; omega
      rw [Obar_last, add_zero]
      unfold sigA sigB
      rw [if_neg hlt]
      iintro ⟨⟨-, Hs⟩, HC⟩
      imodintro
      isplitl [Hs] <;> iassumption)
  rw [fam_last] at h
  exact h

/-- The barrier's waits begin with nothing taken. -/
theorem bar_start : iprop(atPos ER (barCell c) 0 ∅ 0 ∗ cred (tallyAt (barCell c) () (15 - c.val))) ⊢ barSt (F := F) c 1 := by
  unfold barSt
  rw [show 1 - 1 - c.val = 0 by omega, Nat.sub_zero]
  iintro ⟨Hat, Hc⟩
  iexists ∅
  isplitr
  · ipureintro
    exact ⟨Finset.empty_subset _, by rw [Finset.sdiff_empty, card_later]; omega⟩
  isplitl [Hat]; · iexact Hat
  isplitr; · rw [bigSep_empty]; iempintro
  iexact Hc

/-- The barrier's waits leave its semaphore at zero and the slots of the devices after. -/
theorem bar_end (O : CellTallies nD τ sig Unit) :
    iprop(barSt (F := F) c 16 ∗ ctx m ρ c O)
      ⊢ |={Set.univ}=> iprop(semVal (barCell c) 0
          ∗ (bigSep Finset.univ fun t : Fin 16 => if c.val < t.val then iprop(∃ f, slotPts (F := F) t c f) else iprop(emp)) ∗ ctx m ρ c O) := by
  unfold barSt ctx
  rw [show 16 - 1 - c.val = 15 - c.val by omega]
  iintro ⟨⟨%S, %hS, Hat, Hpay, -⟩, #HR, HC⟩
  obtain ⟨hsub, hcard⟩ := hS
  have hS : S = later c := by
    refine Finset.Subset.antisymm hsub (Finset.sdiff_eq_empty_iff_subset.mp (Finset.card_eq_zero.mp (by omega)))
  subst hS
  ihave Hkn := (recs_bar m ρ c) $$ HR
  unfold known
  icases Hkn with ⟨⟨%κ, #HI⟩, -⟩
  imod (Rounds.fupd_skip ER (scanRd m ρ) (g := barCell c) (κ := κ) (R := 0) (m := 15 - c.val) (T := later c)
    (by rw [duties_bar]) (expect_bar m ρ c).symm (Set.mem_univ κ)) $$ [Hat] with ⟨Hat, -⟩
  · isplitr; · iexact HI
    iexact Hat
  imod (Rounds.cell_close ER (scanRd m ρ) (Set.mem_univ κ) (fun h => h) (R := 0 + 1) (duties_later m ρ (barCell c))) $$ [Hat] with Hz
  · isplitr; · iexact HI
    iexact Hat
  imodintro
  isplitl [Hz]; · iexact Hz
  isplitl [Hpay]
  · iapply (Entails.of_eq (show (bigSep (later c) fun t : Fin 16 => iprop(∃ f, slotPts (F := F) t c f) : sProp 𝕄) = _ from
      bigSep_filter Finset.univ (fun t : Fin 16 => c.val < t.val) _)) $$ Hpay
  isplitr; · iexact HR
  iexact HC

/-- The tokens of the copies to the devices after. -/
def sendToks : sProp 𝕄 :=
  iprop((bigSep Finset.univ fun t : Fin 16 => dutyTok ER (sendCell c t) 0 0) ∗ bigSep Finset.univ fun t : Fin 16 => dutyTok ER (recvCell t c) 0 0)

/-- The copies start from their tokens, the column sums and the slots handed over. -/
theorem send_start :
    iprop(sendToks (F := F) c ∗ sPts c (col m ρ c)
        ∗ bigSep Finset.univ fun t : Fin 16 => if c.val < t.val then iprop(∃ f, slotPts (F := F) t c f) else iprop(emp))
      ⊢ fam (sendA m ρ c) (sendB m ρ c) 0 := by
  rw [fam_zero, sPts, src_eq]
  unfold sendToks sendA
  rw [bigSep_sep', bigSep_sep', bigSep_sep']
  iintro ⟨⟨H1, H2⟩, H3, H4⟩
  isplitl [H1]; · iexact H1
  isplitl [H2]; · iexact H2
  isplitl [H3] <;> iassumption

/-- Entry 0 of the copies: no device comes before the first. -/
theorem send_zero {R : sProp 𝕄} :
    iprop(fam (sendA m ρ c) (sendB m ρ c) 0 ∗ ctx m ρ c (Orecv c 0) ∗ R)
      ⊢ |={Set.univ}=> iprop(fam (sendA m ρ c) (sendB m ρ c) 1 ∗ ctx m ρ c (Orecv c 1) ∗ R) :=
  fam_ghost 0 (by decide) (by
    rw [Orecv_one]
    unfold sendA sendB
    rw [if_neg (Nat.not_lt_zero _), if_neg (Nat.not_lt_zero _)]
    iintro ⟨⟨-, -, Hs, -⟩, HC⟩
    imodintro
    isplitl [Hs] <;> iassumption)

/-- The receive waits start from the slots kept and the credits of the devices before. -/
theorem recv_start :
    iprop((bigSep Finset.univ fun j : Fin 16 => atPos ER (recvCell c j) 0 ∅ 0) ∗ (bigSep Finset.univ fun d : Fin 16 => sigB (F := F) c d)
        ∗ bigSep Finset.univ fun j : Fin 16 => if j.val < c.val then cred (tallyAt (recvCell c j) () N) else iprop(emp))
      ⊢ fam (recvA (F := F) c) (recvB m ρ c) 0 := by
  have h (j : Fin 16) : iprop(atPos ER (recvCell c j) 0 ∅ 0 ∗ sigB (F := F) c j
      ∗ if j.val < c.val then cred (tallyAt (recvCell c j) () N) else iprop(emp)) ⊢ recvA (F := F) c j := by
    unfold recvA sigB
    by_cases hj : j.val < c.val
    · rw [if_pos hj, if_pos hj, if_pos hj]
      iintro ⟨Hat, -, Hc⟩
      isplitl [Hat] <;> iassumption
    · rw [if_neg hj, if_neg hj, if_neg hj]
      iintro ⟨Hat, Hs, -⟩
      isplitl [Hat] <;> iassumption
  rw [fam_zero, ← bigSep_sep', ← bigSep_sep']
  exact bigSep_mono fun j _ => h j

/-- The receive waits leave their semaphores at zero and the table of totals. -/
theorem recv_end {R : sProp 𝕄} :
    iprop(fam (recvA (F := F) c) (recvB m ρ c) 15 ∗ ctx m ρ c 0 ∗ R)
      ⊢ |={Set.univ}=> iprop(tPts c (tot m ρ c) ∗ (bigSep Finset.univ fun j : Fin 16 => semVal (recvCell c j) 0) ∗ ctx m ρ c 0 ∗ R) := by
  have h := fam_ghost (A := recvA (F := F) c) (B := recvB m ρ c) (X := ctx m ρ c 0) (Y := ctx m ρ c 0) (R := R) 15 (by decide)
    (recv_skip m ρ c 15 (by have := c.isLt; change c.val < 16 at this; show ¬ (15 : ℕ) < c.val; omega) 0)
  refine h.trans (BI.fupd_mono ?_)
  rw [fam_last, tPts, table_eq]
  unfold recvB
  rw [bigSep_sep']
  iintro ⟨⟨Hz, Hs⟩, HC, HR⟩
  isplitl [Hs]; · iexact Hs
  isplitl [Hz]; · iexact Hz
  isplitl [HC] <;> iassumption

/-- The send waits start from the credits of the copies. -/
theorem back_start :
    iprop((bigSep Finset.univ fun t : Fin 16 => atPos ER (sendCell c t) 0 ∅ 0) ∗ fam (sendA m ρ c) (sendB m ρ c) 16)
      ⊢ fam (backA m ρ c) (backB m ρ c) 0 := by
  rw [fam_zero, fam_last]
  unfold backA
  rw [bigSep_sep']

/-- Entry 0 of the send waits. -/
theorem back_zero {R : sProp 𝕄} :
    iprop(fam (backA m ρ c) (backB m ρ c) 0 ∗ ctx m ρ c 0 ∗ R)
      ⊢ |={Set.univ}=> iprop(fam (backA m ρ c) (backB m ρ c) 1 ∗ ctx m ρ c 0 ∗ R) :=
  fam_ghost 0 (by decide) (back_skip m ρ c 0 (Nat.not_lt_zero _) 0)

/-- The send waits leave their semaphores at zero and the column sums. -/
theorem back_end :
    fam (backA m ρ c) (backB m ρ c) 16 ⊢ iprop((bigSep Finset.univ fun t : Fin 16 => semVal (sendCell c t) 0) ∗ sPts c (col m ρ c)) := by
  rw [fam_last, sPts, src_eq]
  unfold backB
  rw [bigSep_sep']

end Cert.KernelIdeal.Scan

end
-- ==== Proof.KernelIdealCopies.lean ====
/-
The later parts of the body: the copies, the receive waits, the result, the send waits.
-/
module

public import proofs.«01_k».proof.Proof.KernelIdealPhases

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Stm" => Prog (TpuEff nD τ sig (Elt F) Λ₀ Proc.tc) Unit

variable (m : (ℓ : Loc nD τ sig) → Buf (Elt F) ℓ) (ρ : Dev nD → PrngReg)

variable (c : Dev nD)

/-- Part 4: the barrier waits 11 to 15, then the copies to devices 1 to 5. -/
theorem part4 {Q : BitVec 32 → sProp 𝕄} {R : sProp 𝕄}
    (hk : iprop(fam (sendA m ρ c) (sendB m ρ c) 6 ∗ ctx m ρ c (Orecv c 6) ∗ semVal (barCell c) 0 ∗ R) ⊢ Q 6#32) :
    iprop(barSt (F := F) c 11 ∗ ctx m ρ c (Orecv c 0) ∗ sendToks (F := F) c ∗ sPts c (col m ρ c) ∗ R)
      ⊢ WP c (k0_part4_skel xM (Memref.isWhole_whole _) oM (Memref.isWhole_whole _) sM (Memref.isWhole_whole _) tM (Memref.isWhole_whole _)
          cc0_scratch2 cc0_scratch3 c (word c) (SemArray.scalar (sig.barrier 0 rfl)) 11#32) Q := by
  unfold k0_part4_skel
  extract_lets _ _ _ _ _ _ _ _ _ _ _ _ _ _ _ j5 _ _ j4 _ _ j3 _ _ j2 _ _ j1 _ _ w15 w14 w13 w12 w11
  refine bar_step m ρ c 11 (by decide) (by exact before_iff 11 (by decide) c) (by exact fun _ => rfl) ?_
  unfold w11
  refine bar_step m ρ c 12 (by decide) (by exact before_iff 12 (by decide) c) (by exact fun _ => rfl) ?_
  unfold w12
  refine bar_step m ρ c 13 (by decide) (by exact before_iff 13 (by decide) c) (by exact fun _ => rfl) ?_
  unfold w13
  refine bar_step m ρ c 14 (by decide) (by exact before_iff 14 (by decide) c) (by exact fun _ => rfl) ?_
  unfold w14
  refine bar_step m ρ c 15 (by decide) (by exact before_iff 15 (by decide) c) (by exact fun _ => rfl) ?_
  unfold w15
  refine BIBase.Entails.trans ?_ (WP_upd c (P := iprop(fam (sendA m ρ c) (sendB m ρ c) 1 ∗ ctx m ρ c (Orecv c 1) ∗ semVal (barCell c) 0 ∗ R)) ?_)
  · iintro ⟨HB, HC, Htok, Hs, HR⟩
    imod (bar_end m ρ c (Orecv c 0)) $$ [HB HC] with ⟨Hz, Hsl, HC⟩
    · isplitl [HB] <;> iassumption
    iapply (send_zero m ρ c (R := iprop(semVal (barCell c) 0 ∗ R)))
    isplitl [Hsl Htok Hs]
    · iapply (send_start m ρ c)
      isplitl [Htok]; · iexact Htok
      isplitl [Hs] <;> iassumption
    isplitl [HC]; · iexact HC
    isplitl [Hz] <;> iassumption
  refine send_step m ρ c 1 (by decide) (k0_off2_eq c) (k0_off1_eq c) (by exact before_iff 1 (by decide) c) (by exact fun _ => rfl) ?_
  unfold j1
  refine send_step m ρ c 2 (by decide) (k0_off4_eq c) (k0_off3_eq c) (by exact before_iff 2 (by decide) c) (by exact fun _ => rfl) ?_
  unfold j2
  refine send_step m ρ c 3 (by decide) (k0_off6_eq c) (k0_off5_eq c) (by exact before_iff 3 (by decide) c) (by exact fun _ => rfl) ?_
  unfold j3
  refine send_step m ρ c 4 (by decide) (k0_off8_eq c) (k0_off7_eq c) (by exact before_iff 4 (by decide) c) (by exact fun _ => rfl) ?_
  unfold j4
  refine send_step m ρ c 5 (by decide) (k0_off10_eq c) (k0_off9_eq c) (by exact before_iff 5 (by decide) c) (by exact fun _ => rfl) ?_
  unfold j5
  exact hk.trans fupd_intro

set_option maxHeartbeats 2000000 in
/-- Part 5: the copies to devices 6 to 15. -/
theorem part5 {Q : IVec S512x512 32 → sProp 𝕄} {R : sProp 𝕄}
    (hk : iprop(fam (sendA m ρ c) (sendB m ρ c) 16 ∗ ctx m ρ c 0 ∗ R) ⊢ Q (iota .tc S512x512 32 [0] iota_S512x512_d0_w32)) :
    iprop(fam (sendA m ρ c) (sendB m ρ c) 6 ∗ ctx m ρ c (Orecv c 6) ∗ R) ⊢ WP c (k0_part5_skel xM (Memref.isWhole_whole _) oM (Memref.isWhole_whole _) sM (Memref.isWhole_whole _) tM (Memref.isWhole_whole _)
          cc0_scratch2 cc0_scratch3 c (word c) 6#32) Q := by
  rw [← Orecv_last c] at hk
  unfold k0_part5_skel
  extract_lets _ j15 _ _ j14 _ _ j13 _ _ j12 _ _ j11 _ _ j10 _ _ j9 _ _ j8 _ _ j7 _ _ j6 _ _
  refine send_step m ρ c 6 (by decide) (k0_off12_eq c) (k0_off11_eq c) (by exact before_iff 6 (by decide) c) (by exact fun _ => rfl) ?_
  unfold j6
  refine send_step m ρ c 7 (by decide) (k0_off14_eq c) (k0_off13_eq c) (by exact before_iff 7 (by decide) c) (by exact fun _ => rfl) ?_
  unfold j7
  refine send_step m ρ c 8 (by decide) (k0_off16_eq c) (k0_off15_eq c) (by exact before_iff 8 (by decide) c) (by exact fun _ => rfl) ?_
  unfold j8
  refine send_step m ρ c 9 (by decide) (k0_off18_eq c) (k0_off17_eq c) (by exact before_iff 9 (by decide) c) (by exact fun _ => rfl) ?_
  unfold j9
  refine send_step m ρ c 10 (by decide) (k0_off20_eq c) (k0_off19_eq c) (by exact before_iff 10 (by decide) c) (by exact fun _ => rfl) ?_
  unfold j10
  refine send_step m ρ c 11 (by decide) (k0_off22_eq c) (k0_off21_eq c) (by exact before_iff 11 (by decide) c) (by exact fun _ => rfl) ?_
  unfold j11
  refine send_step m ρ c 12 (by decide) (k0_off24_eq c) (k0_off23_eq c) (by exact before_iff 12 (by decide) c) (by exact fun _ => rfl) ?_
  unfold j12
  refine send_step m ρ c 13 (by decide) (k0_off26_eq c) (k0_off25_eq c) (by exact before_iff 13 (by decide) c) (by exact fun _ => rfl) ?_
  unfold j13
  refine send_step m ρ c 14 (by decide) (k0_off28_eq c) (k0_off27_eq c) (by exact before_iff 14 (by decide) c) (by exact fun _ => rfl) ?_
  unfold j14
  refine send_step m ρ c 15 (by decide) (k0_off30_eq c) (k0_off29_eq c) (by exact before_iff 15 (by decide) c) (by exact fun _ => rfl) ?_
  unfold j15
  exact hk.trans fupd_intro

/-- Part 6: the receive waits for devices 0 to 7. -/
theorem part6 {Q : (Σ' (v157 : FVec F S512x512 .f32) (v183 : BitVec 32), BitVec 32) → sProp 𝕄} {R : sProp 𝕄}
    (v54 : FVec F S512x512 .f32) (v150 : IVec S512x512 32)
    (hk : iprop(fam (recvA (F := F) c) (recvB m ρ c) 8 ∗ ctx m ρ c 0 ∗ R)
      ⊢ Q ⟨k0_pay4 v54 v150, Scalar.extui (Scalar.cmpi .sgt (word c) 8#32), 0#32⟩) :
    iprop(fam (recvA (F := F) c) (recvB m ρ c) 0 ∗ ctx m ρ c 0 ∗ R) ⊢ WP c (k0_part6_skel xM (Memref.isWhole_whole _) oM (Memref.isWhole_whole _) sM (Memref.isWhole_whole _) tM (Memref.isWhole_whole _)
          cc0_scratch2 cc0_scratch3 (word c) v54 v150) Q := by
  unfold k0_part6_skel
  extract_lets _ _ _ _ _ _ _ _ _ _ _ _ _ _ _ _ _ _ _ _ _ _ _ _ _ _ j7 _ _ _ _ j6 _ _ _ _ j5 _ _ _ _ j4 _ _ _ _ j3 _ _ _ _ j2 _ _ _ _ j1 _ _ _ _ j0 _ _ _ _
  refine recv_step m ρ c 0 (by decide) (by exact after_iff 0 (by decide) c) (by exact fun _ => rfl) ?_
  unfold j0
  refine recv_step m ρ c 1 (by decide) (by exact after_iff 1 (by decide) c) (by exact fun _ => rfl) ?_
  unfold j1
  refine recv_step m ρ c 2 (by decide) (by exact after_iff 2 (by decide) c) (by exact fun _ => rfl) ?_
  unfold j2
  refine recv_step m ρ c 3 (by decide) (by exact after_iff 3 (by decide) c) (by exact fun _ => rfl) ?_
  unfold j3
  refine recv_step m ρ c 4 (by decide) (by exact after_iff 4 (by decide) c) (by exact fun _ => rfl) ?_
  unfold j4
  refine recv_step m ρ c 5 (by decide) (by exact after_iff 5 (by decide) c) (by exact fun _ => rfl) ?_
  unfold j5
  refine recv_step m ρ c 6 (by decide) (by exact after_iff 6 (by decide) c) (by exact fun _ => rfl) ?_
  unfold j6
  refine recv_step m ρ c 7 (by decide) (by exact after_iff 7 (by decide) c) (by exact fun _ => rfl) ?_
  unfold j7
  exact hk.trans fupd_intro

/-- Part 7: the receive waits for devices 8 to 14, the result from the table of totals, and the first send wait. -/
theorem part7 {Q : (Σ' (v212 : BitVec 32), BitVec 32) → sProp 𝕄} {R : sProp 𝕄} (v157 : FVec F S512x512 .f32) (f)
    (hk : iprop(fam (backA m ρ c) (backB m ρ c) 2 ∗ ctx m ρ c 0 ∗ oPts c (k0_pay5 v157 (tot m ρ c)) ∗ tPts c (tot m ρ c)
        ∗ (bigSep Finset.univ fun j : Fin 16 => semVal (recvCell c j) 0) ∗ R)
      ⊢ Q ⟨Scalar.extui (Scalar.cmpi .slt (word c) 2#32), 0#32⟩) :
    iprop(fam (recvA (F := F) c) (recvB m ρ c) 8 ∗ ctx m ρ c 0 ∗ oPts c f ∗ fam (backA m ρ c) (backB m ρ c) 0 ∗ R)
      ⊢ WP c (k0_part7_skel xM (Memref.isWhole_whole _) oM (Memref.isWhole_whole _) sM (Memref.isWhole_whole _) tM (Memref.isWhole_whole _)
          cc0_scratch2 cc0_scratch3 (word c) v157 (Scalar.extui (Scalar.cmpi .sgt (word c) 8#32)) 0#32) Q := by
  unfold k0_part7_skel
  extract_lets _ _ _ _ _ _ _ _ _ _ _ _ _ _ _ _ _ _ _ _ _ _ _ _ b1 _ _ _ _ j14 _ _ _ _ j13 _ _ _ _ j12 _ _ _ _ j11 _ _ _ _ j10 _ _ _ _ j9 _ _ _ _ j8 _ _ _ _
  refine recv_step m ρ c 8 (by decide) (by exact after_iff 8 (by decide) c) (by exact fun _ => rfl) ?_
  unfold j8
  refine recv_step m ρ c 9 (by decide) (by exact after_iff 9 (by decide) c) (by exact fun _ => rfl) ?_
  unfold j9
  refine recv_step m ρ c 10 (by decide) (by exact after_iff 10 (by decide) c) (by exact fun _ => rfl) ?_
  unfold j10
  refine recv_step m ρ c 11 (by decide) (by exact after_iff 11 (by decide) c) (by exact fun _ => rfl) ?_
  unfold j11
  refine recv_step m ρ c 12 (by decide) (by exact after_iff 12 (by decide) c) (by exact fun _ => rfl) ?_
  unfold j12
  refine recv_step m ρ c 13 (by decide) (by exact after_iff 13 (by decide) c) (by exact fun _ => rfl) ?_
  unfold j13
  refine recv_step m ρ c 14 (by decide) (by exact after_iff 14 (by decide) c) (by exact fun _ => rfl) ?_
  unfold j14
  refine BIBase.Entails.trans (recv_end m ρ c) (WP_upd c ?_)
  refine WP_load c (m := tM) (f := tot m ρ c) (v := tot m ρ c) (by exact Memref.readAt_unit_zero (Elt F) cc0_scratch1 hz3 _ _) ?_
  refine BIBase.Entails.trans (Q := iprop(oPts c f ∗ tPts c (tot m ρ c) ∗ (bigSep Finset.univ fun j : Fin 16 => semVal (recvCell c j) 0)
      ∗ ctx m ρ c 0 ∗ fam (backA m ρ c) (backB m ρ c) 0 ∗ R)) ?_ ?_
  · iintro ⟨Ht, Hz, HC, Ho, HB, HR⟩
    isplitl [Ho]; · iexact Ho
    isplitl [Ht]; · iexact Ht
    isplitl [Hz]; · iexact Hz
    isplitl [HC]; · iexact HC
    isplitl [HB] <;> iassumption
  refine WP_load c (m := oM) (f := f) (v := f) (by exact Memref.readAt_unit_zero (Elt F) cc0_stg1_0 hz2 _ _) ?_
  refine WP_store c (m := oM) (f := f) (g := k0_pay5 v157 (tot m ρ c)) (by exact Memref.write_access_unit_zero_univ (Elt F) cc0_stg1_0 hz2 _ f _) ?_
  refine BIBase.Entails.trans ?_ (WP_upd c (P := iprop(fam (backA m ρ c) (backB m ρ c) 1 ∗ ctx m ρ c 0 ∗ oPts c (k0_pay5 v157 (tot m ρ c))
      ∗ tPts c (tot m ρ c) ∗ (bigSep Finset.univ fun j : Fin 16 => semVal (recvCell c j) 0) ∗ R)) ?_)
  · iintro ⟨Ho, Ht, Hz, HC, HB, HR⟩
    iapply (back_zero m ρ c (R := iprop(oPts c (k0_pay5 v157 (tot m ρ c)) ∗ tPts c (tot m ρ c)
      ∗ (bigSep Finset.univ fun j : Fin 16 => semVal (recvCell c j) 0) ∗ R)))
    isplitl [HB]; · iexact HB
    isplitl [HC]; · iexact HC
    isplitl [Ho]; · iexact Ho
    isplitl [Ht]; · iexact Ht
    isplitl [Hz] <;> iassumption
  refine back_step m ρ c 1 (by decide) (by exact before_iff 1 (by decide) c) (by exact fun _ => rfl) ?_
  unfold b1
  exact hk.trans fupd_intro

/-- Part 8: the send waits 2 to 11. -/
theorem part8 {Q : (Σ' (v242 : BitVec 32), BitVec 32) → sProp 𝕄} {R : sProp 𝕄}
    (hk : iprop(fam (backA m ρ c) (backB m ρ c) 12 ∗ ctx m ρ c 0 ∗ R) ⊢ Q ⟨Scalar.extui (Scalar.cmpi .slt (word c) 12#32), 0#32⟩) :
    iprop(fam (backA m ρ c) (backB m ρ c) 2 ∗ ctx m ρ c 0 ∗ R)
      ⊢ WP c (k0_part8_skel xM (Memref.isWhole_whole _) oM (Memref.isWhole_whole _) sM (Memref.isWhole_whole _) tM (Memref.isWhole_whole _)
          cc0_scratch2 cc0_scratch3 (word c) (Scalar.extui (Scalar.cmpi .slt (word c) 2#32)) 0#32) Q := by
  unfold k0_part8_skel
  extract_lets _ _ _ _ _ _ _ _ _ _ _ _ _ _ _ _ _ _ _ _ _ _ _ _ _ _ _ _ _ _ b11 _ _ _ _ b10 _ _ b9 _ _ b8 _ _ b7 _ _ b6 _ _ b5 _ _ b4 _ _ b3 _ _ b2 _ _
  refine back_step m ρ c 2 (by decide) (by exact before_iff 2 (by decide) c) (by exact fun _ => rfl) ?_
  unfold b2
  refine back_step m ρ c 3 (by decide) (by exact before_iff 3 (by decide) c) (by exact fun _ => rfl) ?_
  unfold b3
  refine back_step m ρ c 4 (by decide) (by exact before_iff 4 (by decide) c) (by exact fun _ => rfl) ?_
  unfold b4
  refine back_step m ρ c 5 (by decide) (by exact before_iff 5 (by decide) c) (by exact fun _ => rfl) ?_
  unfold b5
  refine back_step m ρ c 6 (by decide) (by exact before_iff 6 (by decide) c) (by exact fun _ => rfl) ?_
  unfold b6
  refine back_step m ρ c 7 (by decide) (by exact before_iff 7 (by decide) c) (by exact fun _ => rfl) ?_
  unfold b7
  refine back_step m ρ c 8 (by decide) (by exact before_iff 8 (by decide) c) (by exact fun _ => rfl) ?_
  unfold b8
  refine back_step m ρ c 9 (by decide) (by exact before_iff 9 (by decide) c) (by exact fun _ => rfl) ?_
  unfold b9
  refine back_step m ρ c 10 (by decide) (by exact before_iff 10 (by decide) c) (by exact fun _ => rfl) ?_
  unfold b10
  refine back_step m ρ c 11 (by decide) (by exact before_iff 11 (by decide) c) (by exact fun _ => rfl) ?_
  unfold b11
  exact hk.trans fupd_intro

end Cert.KernelIdeal.Scan

end
-- ==== Proof.KernelIdealBody.lean ====
/-
The whole body on one device: what it takes and what it leaves.
-/
module

public import proofs.«01_k».proof.Proof.KernelIdealCopies

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Stm" => Prog (TpuEff nD τ sig (Elt F) Λ₀ Proc.tc) Unit

variable (m : (ℓ : Loc nD τ sig) → Buf (Elt F) ℓ) (ρ : Dev nD → PrngReg)

variable (c : Dev nD)

/-- One piece of the body after another. -/
theorem WP_seq {P : sProp 𝕄} {α β : Type} {p : Prog (TpuEff nD τ sig (Elt F) Λ₀ .tc) α} {k : α → Prog (TpuEff nD τ sig (Elt F) Λ₀ .tc) β} {Q : β → sProp 𝕄}
    (h : P ⊢ WP c p fun a => WP c (k a) Q) : P ⊢ WP c (p >>= k) Q := by
  rw [WP_bind]; exact h

/-- The buffers the body works in besides the block of the input. -/
def spare : sProp 𝕄 := iprop((∃ f, sPts (F := F) c f) ∗ ∃ f, tPts (F := F) c f)

/-- What the protocol gives device `c` at the start: the tokens of its duties, its positions, its credits. -/
def kit : sProp 𝕄 :=
  iprop(sigToks (F := F) c ∗ sendToks (F := F) c
    ∗ (atPos ER (barCell c) 0 ∅ 0 ∗ cred (tallyAt (barCell c) () (15 - c.val)))
    ∗ (bigSep Finset.univ fun t : Fin 16 => atPos ER (sendCell c t) 0 ∅ 0)
    ∗ (bigSep Finset.univ fun j : Fin 16 => atPos ER (recvCell c j) 0 ∅ 0)
    ∗ bigSep Finset.univ fun j : Fin 16 => if j.val < c.val then cred (tallyAt (recvCell c j) () N) else iprop(emp))

/-- Every semaphore of device `c` at zero. -/
def quiet : sProp 𝕄 :=
  iprop(semVal (barCell c) 0 ∗ (bigSep Finset.univ fun t : Fin 16 => semVal (sendCell c t) 0)
    ∗ bigSep Finset.univ fun j : Fin 16 => semVal (recvCell c j) 0)

set_option maxHeartbeats 2000000 in
/-- Device `c`, from its block of the input, leaves its block of the result and every semaphore at zero. -/
theorem body_run {Q : PUnit → sProp 𝕄} {R : sProp 𝕄}
    (hk : iprop(xPts c (xstg m ρ c) ∗ oPts c (outAt m ρ c) ∗ spare (F := F) c ∗ quiet (F := F) c ∗ ctx m ρ c 0 ∗ R) ⊢ Q ⟨⟩) :
    iprop(xPts c (xstg m ρ c) ∗ (∃ f, oPts (F := F) c f) ∗ spare (F := F) c ∗ kit (F := F) c ∗ ctx m ρ c (O₀ c) ∗ R)
      ⊢ WP c (cc0_body xM (Memref.isWhole_whole _) oM (Memref.isWhole_whole _) sM (Memref.isWhole_whole _) tM (Memref.isWhole_whole _)
          cc0_scratch2 cc0_scratch3) Q := by
  unfold spare kit quiet O₀ at *
  rw [cc0_body_eq_skeleton]
  iintro ⟨HX, ⟨%fo, HO⟩, ⟨⟨%fs, HS⟩, %ft, HT⟩, ⟨Hsig, Hsend, Hbar, Has, Har, Hcr⟩, HC0, HR⟩
  suffices start : iprop(tPts c ft ∗ sigToks (F := F) c ∗ ctx m ρ c (Orecv c 0 + Obar c 0) ∗ xPts c (xstg m ρ c) ∗ sPts c fs ∗ oPts c fo ∗ sendToks (F := F) c ∗ (atPos ER (barCell c) 0 ∅ 0 ∗ cred (tallyAt (barCell c) () (15 - c.val))) ∗ (bigSep Finset.univ fun t : Fin 16 => atPos ER (sendCell c t) 0 ∅ 0) ∗ (bigSep Finset.univ fun j : Fin 16 => atPos ER (recvCell c j) 0 ∅ 0) ∗ (bigSep Finset.univ fun j : Fin 16 => if j.val < c.val then cred (tallyAt (recvCell c j) () N) else iprop(emp)) ∗ R) ⊢ WP c (cc0_body_skel xM (Memref.isWhole_whole _) oM (Memref.isWhole_whole _) sM (Memref.isWhole_whole _) tM (Memref.isWhole_whole _)
          cc0_scratch2 cc0_scratch3) Q by
    iapply start
    isplitl [HT]; · iexact HT
    isplitl [Hsig]; · iexact Hsig
    isplitl [HC0]; · iexact HC0
    isplitl [HX]; · iexact HX
    isplitl [HS]; · iexact HS
    isplitl [HO]; · iexact HO
    isplitl [Hsend]; · iexact Hsend
    isplitl [Hbar]; · iexact Hbar
    isplitl [Has]; · iexact Has
    isplitl [Har]; · iexact Har
    isplitl [Hcr]; · iexact Hcr
    iexact HR
  unfold cc0_body_skel
  refine WP_seq c ?_
  rw [k0_part1_eq_skeleton]
  refine part1 m ρ c ft ?_
  refine WP_seq c ?_
  rw [k0_part2_eq_skeleton]
  refine part2 m ρ c _ fs ?_
  refine BIBase.Entails.trans (Q := iprop(fam (sigA (F := F) c) (sigB (F := F) c) 15 ∗ ctx m ρ c (Orecv c 0 + Obar c 15) ∗ sPts c (col m ρ c) ∗ xPts c (xstg m ρ c) ∗ oPts c fo ∗ sendToks (F := F) c ∗ (atPos ER (barCell c) 0 ∅ 0 ∗ cred (tallyAt (barCell c) () (15 - c.val))) ∗ (bigSep Finset.univ fun t : Fin 16 => atPos ER (sendCell c t) 0 ∅ 0) ∗ (bigSep Finset.univ fun j : Fin 16 => atPos ER (recvCell c j) 0 ∅ 0) ∗ (bigSep Finset.univ fun j : Fin 16 => if j.val < c.val then cred (tallyAt (recvCell c j) () N) else iprop(emp)) ∗ R)) ?_ ?_
  · iintro ⟨HSc, HX, HFs15, HC15, HO, Hsend, Hbar, Has, Har, Hcr, HR⟩
    isplitl [HFs15]; · iexact HFs15
    isplitl [HC15]; · iexact HC15
    isplitl [HSc]; · iexact HSc
    isplitl [HX]; · iexact HX
    isplitl [HO]; · iexact HO
    isplitl [Hsend]; · iexact Hsend
    isplitl [Hbar]; · iexact Hbar
    isplitl [Has]; · iexact Has
    isplitl [Har]; · iexact Har
    isplitl [Hcr]; · iexact Hcr
    iexact HR
  refine BIBase.Entails.trans (sig_end m ρ c) (WP_upd c ?_)
  refine BIBase.Entails.trans (Q := iprop(barSt (F := F) c 1 ∗ ctx m ρ c (Orecv c 0) ∗ sendToks (F := F) c ∗ sPts c (col m ρ c) ∗ (bigSep Finset.univ fun d : Fin 16 => sigB (F := F) c d) ∗ xPts c (xstg m ρ c) ∗ oPts c fo ∗ (bigSep Finset.univ fun t : Fin 16 => atPos ER (sendCell c t) 0 ∅ 0) ∗ (bigSep Finset.univ fun j : Fin 16 => atPos ER (recvCell c j) 0 ∅ 0) ∗ (bigSep Finset.univ fun j : Fin 16 => if j.val < c.val then cred (tallyAt (recvCell c j) () N) else iprop(emp)) ∗ R)) ?_ ?_
  · iintro ⟨HB, HCr, HSc, HX, HO, Hsend, Hbar, Has, Har, Hcr, HR⟩
    isplitl [Hbar]; · iapply (bar_start c) $$ Hbar
    isplitl [HCr]; · iexact HCr
    isplitl [Hsend]; · iexact Hsend
    isplitl [HSc]; · iexact HSc
    isplitl [HB]; · iexact HB
    isplitl [HX]; · iexact HX
    isplitl [HO]; · iexact HO
    isplitl [Has]; · iexact Has
    isplitl [Har]; · iexact Har
    isplitl [Hcr]; · iexact Hcr
    iexact HR
  refine WP_seq c ?_
  rw [k0_part3_eq_skeleton]
  refine part3 m ρ c ?_
  refine WP_seq c ?_
  rw [k0_part4_eq_skeleton]
  refine part4 m ρ c ?_
  refine WP_seq c ?_
  rw [k0_part5_eq_skeleton]
  refine part5 m ρ c ?_
  refine BIBase.Entails.trans (Q := iprop(fam (recvA (F := F) c) (recvB m ρ c) 0 ∗ ctx m ρ c 0 ∗ oPts c fo ∗ fam (backA m ρ c) (backB m ρ c) 0 ∗ semVal (barCell c) 0 ∗ xPts c (xstg m ρ c) ∗ R)) ?_ ?_
  · iintro ⟨HFe16, HC, Hzb, HB, HX, HO, Has, Har, Hcr, HR⟩
    isplitl [HB Har Hcr]
    · iapply (recv_start m ρ c)
      isplitl [Har]; · iexact Har
      isplitl [HB]; · iexact HB
      iexact Hcr
    isplitl [HC]; · iexact HC
    isplitl [HO]; · iexact HO
    isplitl [Has HFe16]
    · iapply (back_start m ρ c)
      isplitl [Has] <;> iassumption
    isplitl [Hzb]; · iexact Hzb
    isplitl [HX]; · iexact HX
    iexact HR
  refine WP_seq c ?_
  rw [k0_part6_eq_skeleton]
  refine part6 m ρ c _ _ ?_
  refine WP_seq c ?_
  rw [k0_part7_eq_skeleton]
  refine part7 m ρ c _ fo ?_
  refine WP_seq c ?_
  rw [k0_part8_eq_skeleton]
  refine part8 m ρ c ?_
  extract_lets _ _ _ _ _ _ _ _ _ b15 _ _ _ _ b14 _ _ b13 _ _ b12 _ _
  refine back_step m ρ c 12 (by decide) (by exact before_iff 12 (by decide) c) (by exact fun _ => rfl) ?_
  unfold b12
  refine back_step m ρ c 13 (by decide) (by exact before_iff 13 (by decide) c) (by exact fun _ => rfl) ?_
  unfold b13
  refine back_step m ρ c 14 (by decide) (by exact before_iff 14 (by decide) c) (by exact fun _ => rfl) ?_
  unfold b14
  refine back_step m ρ c 15 (by decide) (by exact before_iff 15 (by decide) c) (by exact fun _ => rfl) ?_
  unfold b15
  refine BIBase.Entails.trans ?_ (hk.trans fupd_intro)
  iintro ⟨HFb16, HC, HOf, HTt, Hzr, Hzb, HX, HR⟩
  ihave Hb := (back_end m ρ c) $$ HFb16
  icases Hb with ⟨Hzs, HSc⟩
  isplitl [HX]; · iexact HX
  isplitl [HOf]; · iexact HOf
  isplitl [HSc HTt]
  · isplitl [HSc]
    · iexists _; iexact HSc
    iexists _; iexact HTt
  isplitl [Hzb Hzs Hzr]
  · isplitl [Hzb]; · iexact Hzb
    isplitl [Hzs]; · iexact Hzs
    iexact Hzr
  isplitl [HC]; · iexact HC
  iexact HR

end Cert.KernelIdeal.Scan

end
-- ==== Proof.KernelIdealLaunch.lean ====
/-
The launch: what the protocol's resources are dealt out as, how the duty tokens reach the devices that pay the duties, and
which credits each device starts from.
-/
module

public import proofs.«01_k».proof.Proof.KernelIdealBody

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the protocol -/

/-- The semaphores the kernel allocates: sixteen for sends, sixteen for landings. -/
abbrev osem : Fin 16 ⊕ Fin 16 → SemLoc sig
  | .inl t => .dma (sendS t)
  | .inr j => .dma (recvS j)
/-- With the barrier semaphore, all of them. -/
abbrev csem : Unit ⊕ (Fin 16 ⊕ Fin 16) → SemLoc sig
  | .inl _ => .reg barS
  | .inr k => osem k
abbrev kcell (p : Dev nD × (Unit ⊕ (Fin 16 ⊕ Fin 16))) : GSem nD τ sig := ((p.1 : Thread nD τ), csem p.2)

theorem ownSemFacts : Pipeline.OwnSemFacts cfg0.spec osem := by decide

theorem send_inj {a b : Fin 16} (h : sendS a = sendS b) : a = b := by rw [← place_send a, h, place_send]
theorem recv_inj {a b : Fin 16} (h : recvS a = recvS b) : a = b := by rw [← place_recv a, h, place_recv]

theorem csem_injective : Function.Injective csem := by
  rintro (u | a | a) (v | b | b) h
  · rfl
  · cases h
  · cases h
  · cases h
  · rw [send_inj (SemLoc.dma.inj h)]
  · have := congrArg kind (SemLoc.dma.inj h); rw [kind_send, kind_recv] at this; cases this
  · cases h
  · have := congrArg kind (SemLoc.dma.inj h); rw [kind_send, kind_recv] at this; cases this
  · rw [recv_inj (SemLoc.dma.inj h)]
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells of the protocol. -/
def ringCells : Finset (GSem nD τ sig) := Finset.univ.map ⟨kcell, kcell_injective⟩

/-- A duty of a cell of a device: a unit of the barrier from a device, a send, a landing. -/
abbrev tokOf (p : Dev nD × (Fin 16 ⊕ (Fin 16 ⊕ Fin 16))) : GSem nD τ sig × ℕ × Fin 16 := match p.2 with
  | .inl d => (barCell p.1, 0, d)
  | .inr (.inl t) => (sendCell p.1 t, 0, 0)
  | .inr (.inr j) => (recvCell p.1 j, 0, 0)

/-- A duty determines its device and its kind. -/
theorem tokOf_injective : Function.Injective tokOf := by
  rintro ⟨c, k⟩ ⟨c', k'⟩ h
  have h1 : c = c' := by
    have := congrArg (fun x : GSem nD τ sig × ℕ × Fin 16 => x.1.1.1) h
    rcases k with d | t | j <;> rcases k' with d' | t' | j' <;> exact this
  subst h1
  have h2 := congrArg (fun x : GSem nD τ sig × ℕ × Fin 16 => x.1.2) h
  have h3 := congrArg (fun x : GSem nD τ sig × ℕ × Fin 16 => x.2.2) h
  rcases k with d | t | j <;> rcases k' with d' | t' | j'
  · exact congrArg (fun d => (c, Sum.inl d)) h3
  · cases h2
  · cases h2
  · cases h2
  · exact congrArg (fun t => (c, Sum.inr (Sum.inl t))) (send_inj (SemLoc.dma.inj h2))
  · have := congrArg kind (SemLoc.dma.inj h2); rw [kind_send, kind_recv] at this; cases this
  · cases h2
  · have := congrArg kind (SemLoc.dma.inj h2); rw [kind_send, kind_recv] at this; cases this
  · exact congrArg (fun j => (c, Sum.inr (Sum.inr j))) (recv_inj (SemLoc.dma.inj h2))

/-- All duties. -/
def ringToks : Finset (GSem nD τ sig × ℕ × Fin 16) := Finset.univ.map ⟨tokOf, tokOf_injective⟩

/-- What the launch starts from. -/
def u₀ : UU := (initOf (Pipeline.cells cfgs cellOf_inj) (Pipeline.launchToks cfgs cellOf_inj), initOf ringCells ringToks)

/-- A conjunction over the semaphores of a device, barrier, sends and landings apart. -/
theorem cells_split (Φ : GSem nD τ sig → sProp 𝕄) (c : Dev nD) :
    bigSep Finset.univ (fun k => Φ (kcell (c, k)))
      = iprop(Φ (barCell c) ∗ (bigSep Finset.univ fun t : Fin 16 => Φ (sendCell c t)) ∗ bigSep Finset.univ fun j : Fin 16 => Φ (recvCell c j)) := by
  rw [bigSep_univ_sum, bigSep_univ_sum, Finset.univ_unique, bigSep_singleton]; rfl

/-! ## What is dealt out, and how it is passed on -/

/-- The duty tokens of device `c`'s own cells. -/
def toks (c : Dev nD) : sProp 𝕄 :=
  iprop((bigSep Finset.univ fun d : Fin 16 => dutyTok ER (barCell c) 0 d) ∗ (bigSep Finset.univ fun t : Fin 16 => dutyTok ER (sendCell c t) 0 0)
    ∗ bigSep Finset.univ fun j : Fin 16 => dutyTok ER (recvCell c j) 0 0)

/-- What device `c` gets of the launch. -/
def G (c : Dev nD) : sProp 𝕄 :=
  iprop((bigSep Finset.univ fun k => roundState ER (scanRd m ρ) (kcell (c, k)) 0)
    ∗ ((bigSep Finset.univ fun k => atPos ER (kcell (c, k)) 0 ∅ 0) ∗ bigSep Finset.univ fun k => reached ER (kcell (c, k)) 0) ∗ toks (F := F) c)

/-- The positions of device `c` and the tokens of the duties it pays. -/
def hand (c : Dev nD) : sProp 𝕄 :=
  iprop((bigSep Finset.univ fun k => atPos ER (kcell (c, k)) 0 ∅ 0) ∗ sigToks (F := F) c ∗ sendToks (F := F) c)

/-- What device `c` has once the tokens are passed on. -/
def G' (c : Dev nD) : sProp 𝕄 := iprop(recs m ρ ∗ hand (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (scanRd m ρ) ringCells ringToks) $$ HX with ⟨Hst, Hr, Hat, Htok⟩
  imodintro
  ihave Hst' := (Entails.of_eq (hX fun g => roundState ER (scanRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero. -/
theorem ownSems0_eq (c : Dev nD) : (Pipeline.ownSems0 (Ix := Unit) (Name := ℕ) (U := UU) (Lvl := ℕ) (Val := Elt F) (τ := τ) osem c : sProp 𝕄)
    = iprop((bigSep Finset.univ fun t : Fin 16 => semVal (sendCell c t) 0) ∗ bigSep Finset.univ fun j : Fin 16 => semVal (recvCell c j) 0) := by
  unfold Pipeline.ownSems0; rw [bigSep_univ_sum]; rfl
/-- The barrier semaphore at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All semaphores of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, cells_split (fun g => semVal g 0)]
  iintro ⟨HS, HB⟩
  isplitl [HB]; · iexact HB
  iexact HS

/-- A device opens the record of each of its semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => known m ρ (kcell (c, k)))
          ∗ (bigSep Finset.univ fun k => atPos ER (kcell (c, k)) 0 ∅ 0) ∗ toks (F := F) c) := by
  have halloc : iprop((bigSep Finset.univ fun k => semVal (kcell (c, k)) 0) ∗ bigSep Finset.univ fun k => roundState ER (scanRd m ρ) (kcell (c, k)) 0)
      ⊢ (|={Set.univ}=> bigSep Finset.univ fun k => iprop(∃ κ : ℕ, cellInv ER (scanRd m ρ) κ (kcell (c, k))) : sProp 𝕄) := by
    rw [← bigSep_sep']
    exact (bigSep_mono fun k _ => (Rounds.body_intro ER (scanRd m ρ) (kcell (c, k))).trans inv_alloc).trans (bigSep_fupd _ _)
  unfold G known
  iintro ⟨Hos, Hus, Hst, ⟨Hat, Hr⟩, Htok⟩
  ihave Hv := (sems0_eq (F := F) c) $$ [Hos Hus]
  · isplitl [Hos] <;> iassumption
  imod halloc $$ [Hv Hst] with Hinv
  · isplitl [Hv] <;> iassumption
  imodintro
  rw [bigSep_sep']
  isplitl [Hinv Hr]
  · isplitl [Hinv] <;> iassumption
  isplitl [Hat]; · iexact Hat
  iexact Htok

/-- What all devices opened, together. -/
theorem recs_intro : (bigSep Finset.univ fun c : Dev nD => bigSep Finset.univ fun k => known m ρ (kcell (c, k))) ⊢ recs m ρ := by
  rw [bigSep_congr (s := Finset.univ) fun (c : Dev nD) _ => cells_split (fun g => known m ρ g) c, bigSep_sep', bigSep_sep']
  unfold recs
  rw [bigSep_univ_prod (fun p : Dev nD × Fin 16 => known m ρ (sendCell p.1 p.2)), bigSep_univ_prod (fun p : Dev nD × Fin 16 => known m ρ (recvCell p.1 p.2))]

/-- Each token goes to the device that pays the duty. -/
theorem toks_around : (bigSep Finset.univ fun c : Dev nD => (toks c : sProp 𝕄))
    ⊢ bigSep Finset.univ fun c : Dev nD => iprop(sigToks (F := F) c ∗ sendToks (F := F) c) := by
  unfold toks sigToks sendToks
  rw [bigSep_sep', bigSep_sep', bigSep_sep', bigSep_sep',
    bigSep_univ_comm (fun (c : Dev nD) (d : Fin 16) => (dutyTok ER (barCell c) 0 d : sProp 𝕄)),
    bigSep_univ_comm (fun (c : Dev nD) (j : Fin 16) => (dutyTok ER (recvCell c j) 0 0 : sProp 𝕄))]

/-- What holds for good is given to everyone. -/
theorem bigSep_with {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k => known m ρ (kcell (c, k)))
          ∗ (bigSep Finset.univ fun k => atPos ER (kcell (c, k)) 0 ∅ 0) ∗ toks (F := F) c) : sProp 𝕄)
      ⊢ bigSep Finset.univ (G' m ρ) := by
  have hG : (G' m ρ : Dev nD → sProp 𝕄) = fun c => iprop(recs m ρ ∗ hand (F := F) c) := rfl
  rw [bigSep_sep', bigSep_sep', hG]
  refine BIBase.Entails.trans ?_ (bigSep_with (R := recs m ρ) fun c => hand (F := F) c)
  unfold hand
  rw [bigSep_sep']
  iintro ⟨HI, Hat, Htok⟩
  isplitl [HI]; · iapply (recs_intro m ρ) $$ HI
  isplitl [Hat]; · iexact Hat
  iapply (toks_around (F := F)) $$ Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_eq_iff {a b : Dev nD} : Iff (barCell a = barCell b) (a = b) :=
  ⟨fun h => congrArg (fun g : GSem nD τ sig => g.1.1) h, fun h => h ▸ rfl⟩
theorem recv_eq_iff {a b : Dev nD} {i j : Fin 16} : Iff (recvCell a i = recvCell b j) (a = b ∧ i = j) :=
  ⟨fun h => ⟨congrArg (fun g : GSem nD τ sig => g.1.1) h, recv_inj (SemLoc.dma.inj (congrArg Prod.snd h))⟩, fun h => by rw [h.1, h.2]⟩

/-- Device `d` owes a unit of device `c`'s barrier if `c` is before `d`. -/
theorem owed_bar (d c : Dev nD) : O₀ d (barCell c) () = if c.val < d.val then 1 else 0 := by
  unfold O₀ Orecv Obar
  rw [Pi.add_apply, Finsupp.add_apply, Finset.sum_apply, Finsupp.finset_sum_apply, Finset.sum_apply, Finsupp.finset_sum_apply,
    Finset.sum_eq_zero fun t _ => by rw [tallyAt_ne_cell fun h => recv_ne_bar d (congrArg Prod.snd h).symm]; rfl, Nat.zero_add,
    Finset.sum_congr rfl fun e _ => show tallyAt (barCell e) () 1 (barCell c) () = if (c : Fin 16) = e then 1 else 0 by
      rw [tallyAt_apply]; exact if_congr ⟨fun h => bar_eq_iff.mp h.1, fun h => ⟨bar_eq_iff.mpr h, rfl⟩⟩ rfl rfl,
    Finset.sum_ite_eq]
  exact if_congr (by rw [Finset.mem_filter]; exact ⟨fun h => h.2.2, fun h => ⟨Finset.mem_univ _, Nat.zero_le _, h⟩⟩) rfl rfl

/-- Device `d` owes a landing in device `c`'s slot `j` if it is device `j` and before `c`. -/
theorem owed_recv (d c : Dev nD) (j : Fin 16) (hj : j.val < c.val) : O₀ d (recvCell c j) () = if d = j then N else 0 := by
  unfold O₀ Orecv Obar
  rw [Pi.add_apply, Finsupp.add_apply, Finset.sum_apply, Finsupp.finset_sum_apply, Finset.sum_apply, Finsupp.finset_sum_apply]
  rw [Finset.sum_eq_zero (s := Finset.univ.filter fun e : Fin 16 => 0 ≤ e.val ∧ e.val < d.val)
      fun e _ => by rw [tallyAt_ne_cell fun h => recv_ne_bar j (congrArg Prod.snd h)]; rfl, Nat.add_zero]
  by_cases h : d = j
  · subst h
    rw [if_pos rfl, Finset.sum_congr rfl fun t _ => show tallyAt (recvCell t d) () N (recvCell c d) () = if (c : Fin 16) = t then N else 0 by
      rw [tallyAt_apply]; exact if_congr ⟨fun h => (recv_eq_iff.mp h.1).1, fun h => ⟨recv_eq_iff.mpr ⟨h, rfl⟩, rfl⟩⟩ rfl rfl,
      Finset.sum_ite_eq]
    exact if_pos (Finset.mem_filter.mpr ⟨Finset.mem_univ _, Nat.zero_le _, hj⟩)
  · rw [if_neg h]
    exact Finset.sum_eq_zero fun t _ => by rw [tallyAt_apply, if_neg fun h' => h (recv_eq_iff.mp h'.1).2.symm]

theorem launch_bar (c : Dev nD) :
    tallyOn (barCell c) (launchCredit (Pipeline.owing O₀) 0 (barCell c)) = (tallyAt (barCell c) () (15 - c.val) : CellTallies nD τ sig Unit) := by
  unfold tallyAt; refine congrArg _ (Finsupp.ext fun u => ?_); cases u
  rw [Pipeline.launchCredit_owing, Finsupp.single_eq_same, Finset.sum_congr rfl fun d _ => owed_bar d c, ← Finset.sum_filter, Finset.sum_const,
    smul_eq_mul, Nat.mul_one]
  exact card_later c

theorem launch_recv (c : Dev nD) (j : Fin 16) (hj : j.val < c.val) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

/-- The semaphores of landings. -/
def recvSems : Finset (SemLoc sig) := Finset.univ.map ⟨fun j : Fin 16 => SemLoc.dma (recvS j), fun a b h => recv_inj (SemLoc.dma.inj h)⟩

theorem creds (c : Dev nD) :
    (Pipeline.launchCred O₀ c : sProp 𝕄) ⊢ iprop(cred (tallyAt (barCell c) () (15 - c.val))
      ∗ bigSep Finset.univ fun j : Fin 16 => if j.val < c.val then cred (tallyAt (recvCell c j) () N) else iprop(emp)) := by
  have hsub : recvSems ⊆ Finset.univ.erase (SemLoc.reg barS) := fun s hs => by
    obtain ⟨j, -, rfl⟩ := Finset.mem_map.mp hs
    exact Finset.mem_erase.mpr ⟨recv_ne_bar j, Finset.mem_univ _⟩
  have hone (j : Fin 16) : (cred (tallyOn (recvCell c j) (launchCredit (Pipeline.owing O₀) 0 (recvCell c j))) : sProp 𝕄)
      ⊢ if j.val < c.val then cred (tallyAt (recvCell c j) () N) else iprop(emp) := by
    by_cases h : j.val < c.val
    · rw [if_pos h, launch_recv c j h]
    · rw [if_neg h]; iintro -; iempintro
  unfold Pipeline.launchCred
  rw [bigSep_univ_at _ (SemLoc.reg barS), launch_bar]
  refine sep_mono_right ((bigSep_subset hsub).trans ?_)
  unfold recvSems
  rw [bigSep_map]
  exact bigSep_mono fun j _ => hone j

end Cert.KernelIdeal.Scan

end
-- ==== Proof.KernelIdealRun.lean ====
/-
The run of the whole program on sixteen devices: it ends, the input is unchanged, the semaphores are at zero, and each
device's block of the result is the computed one.
-/
module

public import proofs.«01_k».proof.Proof.KernelIdealLaunch
public import Idealize.ShloMosaic.Lib.Pipeline.ValueKit
public import Idealize.ShloMosaic.Lib.Pipeline.CollectiveSegs

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What the body starts from besides the buffers. -/
def start (c : Dev nD) : sProp 𝕄 := iprop(kit (F := F) c ∗ recs m ρ ∗ levAts L lv)
def Φ₀ (c : Dev nD) : sProp 𝕄 := iprop(start m ρ c ∗ spare (F := F) c)
/-- What it leaves besides the buffers. -/
def Φ₁ (c : Dev nD) : sProp 𝕄 := iprop(quiet (F := F) c ∗ spare (F := F) c)

/-- The one point's data: the input block is left as it was, the result block is the computed one. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
/-- The one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

/-! ## The body -/

/-- A buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

theorem body_post (c : Dev nD) :
    iprop(xPts c (xstg m ρ c) ∗ oPts c (outAt m ρ c) ∗ spare (F := F) c ∗ quiet (F := F) c ∗ ctx m ρ c 0 ∗ emp) ⊢ bodyPost m ρ c := by
  unfold bodyPost Φ₁ Dat.owesAt Pipeline.owesWithin ctx
  rw [show (dats m ρ 0 c).owed t₀.succ = 0 from rfl]
  iintro ⟨HX, HO, Hs, Hq, ⟨-, -, %W, HW⟩, -⟩
  isplitl [Hs Hq]
  · isplitl [Hq] <;> iassumption
  isplitl [HW]
  · iexists W
    isplitr; · ipureintro; exact fun _ _ => Or.inl trivial
    iexact HW
  isplitl [HX]
  · iexists _; isplitr; · (ipureintro; rfl)
    iexact HX
  iexists _; isplitr; · (ipureintro; rfl)
  iexact HO

/-- The body takes the one to the other. -/
theorem sound_body (c : Dev nD) :
    bodyPre m ρ c ⊢ WP c (cc0_body xM (Memref.isWhole_whole _) oM (Memref.isWhole_whole _) sM (Memref.isWhole_whole _) tM (Memref.isWhole_whole _)
          cc0_scratch2 cc0_scratch3) (fun _ => bodyPost m ρ c) := by
  refine BIBase.Entails.trans ?_ (body_run m ρ c (R := iprop(emp)) (body_post m ρ c))
  unfold bodyPre Φ₀ start ctx
  iintro ⟨⟨⟨Hk, HR, HL⟩, Hs⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  isplitl [Hx]; · iexact Hx
  isplitl [Hout]; · iexists _; iexact Hout
  isplitl [Hs]; · iexact Hs
  isplitl [Hk]; · iexact Hk
  isplitl
  · isplitl [HR]; · iexact HR
    isplitl [HL]; · iexact HL
    iexists W; iexact HO
  iempintro

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) sM (Memref.isWhole_whole _) tM (Memref.isWhole_whole _) cc0_scratch2 cc0_scratch3)
    (fun _ => bodyPost m ρ c)
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start kit G' hand
  rw [cells_split (fun g => atPos ER g 0 ∅ 0)]
  iintro ⟨-, Hlev, Hcr, -, HR, ⟨Hab, Has, Har⟩, Hsig, Hsend⟩
  ihave Hc := (creds (F := F) c) $$ Hcr
  icases Hc with ⟨H1, HN⟩
  imodintro
  isplitl
  · isplitl [H1 HN Hab Has Har Hsig Hsend]
    · isplitl [Hsig]; · iexact Hsig
      isplitl [Hsend]; · iexact Hsend
      isplitl [Hab H1]
      · isplitl [Hab] <;> iassumption
      isplitl [Has]; · iexact Has
      isplitl [Har]; · iexact Har
      iexact HN
    isplitl [HR]; · iexact HR
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ spare
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ quiet spare
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution ends with the arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is unchanged. -/
theorem finalA_x (c : Dev nD) : finalA m ρ c (0 : Fin 2) = (s₀ m ρ).mem ((c : Thread nD τ).loc main_arg0) :=
  (dats (F := F) m ρ 0 c).arrAt_in (0 : Fin 2) rfl _

/-- The result is the computed block. -/
theorem finalA_out (c : Dev nD) : finalA m ρ c (1 : Fin 2) = outAt m ρ c := by
  refine (dats (F := F) m ρ 0 c).arrAt_eq_of_after_last (1 : Fin 2) t₀ (by decide +kernel) _ fun j => ?_
  blk_simp
  rfl

end Cert.KernelIdeal.Scan

end
-- ==== Proof.Sums.lean ====
/-
Sums of rows: a prefix of the rows is the whole blocks before and the rows of the block it ends in.
-/
module

public import Mathlib.Algebra.BigOperators.Fin

@[expose] public section

namespace Cert.Sums

variable {M : Type} [AddCommMonoid M] (V : ℕ → M)

/-- The rows of the first `c` blocks of `b` rows, block by block. -/
theorem sum_blocks (b c : ℕ) : ∑ i ∈ Finset.range (c * b), V i = ∑ j ∈ Finset.range c, ∑ k ∈ Finset.range b, V (j * b + k) := by
  induction c with
  | zero => rw [Nat.zero_mul]; rfl
  | succ c ih => rw [Nat.succ_mul, Finset.sum_range_add, ih, Finset.sum_range_succ]

/-- The rows up to row `r` of block `c`: those of the block, and the blocks before. -/
theorem sum_prefix (b c r : ℕ) :
    ∑ i ∈ Finset.range (c * b + r + 1), V i
      = (∑ k ∈ Finset.range (r + 1), V (c * b + k)) + ∑ j ∈ Finset.range c, ∑ k ∈ Finset.range b, V (j * b + k) := by
  rw [Nat.add_assoc, Finset.sum_range_add, sum_blocks, add_comm]

/-- A sum over the entries below `r` of `n`, as a sum over all `n` with zeros. -/
theorem sum_fin_lt {n : ℕ} (f : Fin n → M) (r : ℕ) (hr : r ≤ n) (g : ℕ → M) (hg : ∀ k : Fin n, f k = if k.val < r then g k.val else 0) :
    ∑ k, f k = ∑ k ∈ Finset.range r, g k := by
  rw [Finset.sum_congr rfl fun k _ => hg k, Fin.sum_univ_eq_sum_range (fun k => if k < r then g k else 0) n, ← Finset.sum_filter]
  refine Finset.sum_congr (Finset.ext fun k => ?_) fun _ _ => rfl
  rw [Finset.mem_filter, Finset.mem_range, Finset.mem_range]
  omega

/-- A window of `p + 1` rows ending at row `j`, zeros where it sticks out below, sums the rows up to `j`. -/
theorem sum_window (p j : ℕ) (hj : j ≤ p) :
    (∑ n ∈ Finset.range (p + 1), if p ≤ j + n then V (j + n - p) else 0) = ∑ i ∈ Finset.range (j + 1), V i := by
  rw [show p + 1 = (p - j) + (j + 1) by omega, Finset.sum_range_add,
    Finset.sum_eq_zero fun n hn => if_neg (by rw [Finset.mem_range] at hn; omega), zero_add]
  refine Finset.sum_congr rfl fun i _ => ?_
  rw [if_pos (by omega), show j + (p - j + i) - p = i by omega]

/-- Adding up a list one by one from zero. -/
theorem foldl_add {ι : Type} (l : List ι) (f : ι → M) (z : M) : l.foldl (fun r n => r + f n) z = z + (l.map f).sum := by
  induction l generalizing z with
  | nil => rw [List.foldl_nil, List.map_nil, List.sum_nil, add_zero]
  | cons n l ih => rw [List.foldl_cons, ih, List.map_cons, List.sum_cons, add_assoc]

end Cert.Sums
-- ==== Proof.KernelIdealValue.lean ====
/-
What the kernel's vectors hold at an entry, over the reals: the block a device works on, the column sums it
sends, its result.
-/
module

public import proofs.«01_k».proof.Proof.KernelIdealRun
public import proofs.«01_k».proof.Proof.Sums
public import Idealize.ShloMosaic.Lib.Pointwise
public import Idealize.ShloMosaic.Lib.WordCmp

@[expose] public section

noncomputable section

namespace Cert.KernelIdeal.Scan

open Cert.KernelIdeal Cert.KernelIdeal.Gen
open Idealize.ShloMosaic Idealize.ShloMosaic.TcCoe

/-- The column sums of a block. -/
theorem sums_apply (v : Vec Ideal S512x512 .f32) (a : Fin 1) (l : Fin 512) :
    k0_pay3 (F := Ideal) v (ix2 a l) = ∑ k : Fin 512, v (ix2 k l) := by
  pointwise [k0_pay3, k0_pay2]

/-- The table starts at zero. -/
theorem zeros_apply (i : S16x1x512.Idx) : k0_pay1 (F := Ideal) i = 0 := by
  pointwise [k0_pay1]

/-- The comparison of row with column, as a number: one on and below the diagonal, zero above. -/
theorem lower_apply (r k : Fin 512) :
    FloatOps.sitofp (F := Ideal) FTy.f32 (BitVec.setWidth 32 (IntOp.cmpi CmpIPredicate.sge (BitVec.ofNat 32 r.val) (BitVec.ofNat 32 k.val)))
      = if k.val < r.val + 1 then 1 else 0 := by
  have hr := r.isLt
  have hk := k.isLt
  rw [WordCmp.cmpi_sge_ofNat (by omega) (by omega)]
  by_cases h : k.val ≤ r.val
  · rw [if_pos (by omega), decide_eq_true h]
    show (((BitVec.setWidth 32 (BitVec.ofBool true)).toInt : ℝ) : EReal) = 1
    rw [show (BitVec.setWidth 32 (BitVec.ofBool true)).toInt = 1 by decide]
    norm_num
  · rw [if_neg (by omega), decide_eq_false h]
    show (((BitVec.setWidth 32 (BitVec.ofBool false)).toInt : ℝ) : EReal) = 0
    rw [show (BitVec.setWidth 32 (BitVec.ofBool false)).toInt = 0 by decide]
    norm_num

/-- The triangular product: the block's rows up to the entry's. -/
theorem local_apply (v : Vec Ideal S512x512 .f32) (r l : Fin 512) :
    k0_pay4 (F := Ideal) v (iota .tc S512x512 32 [0] iota_S512x512_d0_w32) (ix2 r l)
      = ∑ k : Fin 512, if k.val < r.val + 1 then v (ix2 k l) else 0 := by
  pointwise [k0_pay4]
  refine Finset.sum_congr rfl fun k _ => ?_
  rw [lower_apply, ite_mul, one_mul, zero_mul]

/-- The result: the local running sum and the table's column sums. -/
theorem result_apply (v : Vec Ideal S512x512 .f32) (w : Vec Ideal S16x1x512 .f32) (r l : Fin 512) :
    k0_pay5 (F := Ideal) v w (ix2 r l) = v (ix2 r l) + ∑ j : Fin 16, w (ix3 j (0 : Fin 1) l) := by
  pointwise [k0_pay5]

variable (m : (ℓ : Loc nD τ sig) → Buf (Elt Ideal) ℓ) (ρ : Dev nD → PrngReg)

/-- A device's block is its argument array. -/
theorem xstg_apply (c : Dev nD) (k l : Fin 512) : xstg m ρ c (ix2 k l) = m ((c : Thread nD τ).loc main_arg0) (ix2 k l) := by
  unfold xstg
  refine congrArg (m ((c : Thread nD τ).loc main_arg0)) (funext fun a => Fin.ext ?_)
  blk_simp
  match a with
  | ⟨0, _⟩ => exact Nat.zero_add _
  | ⟨1, _⟩ => exact Nat.zero_add _

/-- The copied block is the block. -/
theorem copied_eq (v : Vec Ideal S512x512 .f32) (r l : Fin 512) : k0_pay2 (F := Ideal) v (ix2 r l) = v (ix2 r l) := by
  pointwise [k0_pay2]

/-- A device's result at an entry: its rows up to the entry's, and the column sums of the devices before. -/
theorem outAt_apply (V : ℕ → Fin 512 → EReal)
    (hV : ∀ (c : Dev nD) (k l : Fin 512), m ((c : Thread nD τ).loc main_arg0) (ix2 k l) = V (c.val * 512 + k.val) l)
    (c : Dev nD) (r l : Fin 512) :
    outAt m ρ c (ix2 r l) = ∑ i ∈ Finset.range (c.val * 512 + r.val + 1), V i l := by
  have hr := r.isLt
  have hc : c.val < 16 := c.isLt
  unfold outAt
  rw [result_apply, local_apply, Sums.sum_prefix (fun i => V i l)]
  refine congrArg₂ (· + ·) (Sums.sum_fin_lt _ (r.val + 1) (by omega) _ fun k => ?_)
    (Sums.sum_fin_lt _ c.val (by omega) _ fun j => ?_)
  · rw [copied_eq, xstg_apply, hV]
  · show (if j.val < c.val then k0_pay3 (F := Ideal) (xstg m ρ j) (ix2 (0 : Fin 1) l) else k0_pay1 (F := Ideal) (ix3 j (0 : Fin 1) l)) = _
    rw [sums_apply, zeros_apply]
    refine if_congr Iff.rfl ?_ rfl
    rw [← Fin.sum_univ_eq_sum_range (fun k => V (j.val * 512 + k) l) 512]
    exact Finset.sum_congr rfl fun k _ => (xstg_apply m ρ j k l).trans (hV j k l)

end Cert.KernelIdeal.Scan

end
-- ==== Proof.ReferenceValue.lean ====
/-
What the reference's running sum holds at an entry, over the reals.
-/
module

public import proofs.«01_k».proof.Proof.Gen.ReferenceIdeal
public import proofs.«01_k».proof.Proof.Sums
public import Idealize.ShloMosaic.Lib.Routing.OpsOne
public import Idealize.ShloMosaic.Lib.Pointwise

@[expose] public section

noncomputable section

namespace Cert.ReferenceIdeal.Value

open Cert.ReferenceIdeal Cert.ReferenceIdeal.Gen
open Idealize.ShloMosaic

/-- The rows of the whole array by number, zero past the last. -/
def rowOf (x : FVec Ideal S8192x512 .f32) (i : ℕ) (l : Fin 512) : EReal := if h : i < 8192 then x (ix2 ⟨i, h⟩ l) else 0

/-- The reference's result. -/
def refOut (x : FVec Ideal S8192x512 .f32) : FVec Ideal S8192x512 .f32 :=
  Host.reduceWindowAdd (F := Ideal) (φ := .f32) ![8192, 1] ![1, 1] ![8191, 0] ![0, 0] x (broadcastInDim S_ ![] bcast_S_S_ (constant S_ .f32 0x00000000#32)) reduceWindows_S8192x512_S8192x512_w8192s1p8191_0_w1s1p0_0 h_S_

/-- A window's place `n` is row `n` of its one column. -/
theorem place (n : Fin (Routing.shape2 8192 1).numel) (a : Fin 2) :
    ((Routing.shape2 8192 1).rowMajor.symm n a).val = if a = 0 then n.val else 0 := by
  rw [Routing.symm_col]
  match a with
  | ⟨0, _⟩ => rfl
  | ⟨1, _⟩ => rfl

/-- Entry `(j, l)` is the sum of column `l`'s rows up to `j`. -/
theorem refOut_apply (x : FVec Ideal S8192x512 .f32) (j : Fin 8192) (l : Fin 512) :
    refOut x (ix2 j l) = ∑ i ∈ Finset.range (j.val + 1), rowOf x i l := by
  have hj := j.isLt
  have hl := l.isLt
  have e : refOut x = Ideal.hostReduceWindowAdd (s := S8192x512) (t := S8192x512) ![8192, 1] ![1, 1] ![8191, 0] ![0, 0] reduceWindows_S8192x512_S8192x512_w8192s1p8191_0_w1s1p0_0 x 0 := by
    have hz : broadcastInDim S_ ![] bcast_S_S_ (constant (F := Ideal) S_ .f32 0x00000000#32) (Shape.Idx.first h_S_) = (0 : EReal) := Ideal.ofBits_zero_f32
    unfold refOut Host.reduceWindowAdd
    rw [hz]
    rfl
  rw [← Sums.sum_window (fun i => rowOf x i l) 8191 j.val (by omega), e]
  unfold Ideal.hostReduceWindowAdd Host.reduceWindow
  refine (Sums.foldl_add (List.finRange (Routing.shape2 8192 1).numel) _ (0 : EReal)).trans ?_
  rw [zero_add, ← List.ofFn_eq_map, List.sum_ofFn]
  rw [← Fin.sum_univ_eq_sum_range (fun n => if 8191 ≤ j.val + n then rowOf x (j.val + n - 8191) l else 0) 8192]
  refine Fintype.sum_equiv (finCongr (Routing.numel_col 8192)) _ _ fun n => ?_
  have hn : n.val < 8192 := (n.cast (Routing.numel_col 8192)).isLt
  have p0 : ((Routing.shape2 8192 1).rowMajor.symm n 0).val = n.val := place n 0
  have p1 : ((Routing.shape2 8192 1).rowMajor.symm n 1).val = 0 := place n 1
  show _ = if 8191 ≤ j.val + n.val then rowOf x (j.val + n.val - 8191) l else 0
  by_cases h : 8191 ≤ j.val + n.val
  · have hin : j.val + n.val - 8191 < 8192 := by omega
    rw [if_pos h, rowOf, dif_pos hin]
    refine (dif_pos fun a => ?_).trans (congrArg x ((ValueIdx.eq_ix2 _).trans (congrArg₂ ValueIdx.ix2 (Fin.ext ?_) (Fin.ext ?_))))
    · match a with
      | ⟨0, _⟩ =>
        show 8191 ≤ j.val * 1 + ((Routing.shape2 8192 1).rowMajor.symm n 0).val ∧ j.val * 1 + ((Routing.shape2 8192 1).rowMajor.symm n 0).val - 8191 < 8192
        rw [p0]
        omega
      | ⟨1, _⟩ =>
        show 0 ≤ l.val * 1 + ((Routing.shape2 8192 1).rowMajor.symm n 1).val ∧ l.val * 1 + ((Routing.shape2 8192 1).rowMajor.symm n 1).val - 0 < 512
        rw [p1]
        omega
    · show j.val * 1 + ((Routing.shape2 8192 1).rowMajor.symm n 0).val - 8191 = j.val + n.val - 8191
      rw [p0, Nat.mul_one]
    · show l.val * 1 + ((Routing.shape2 8192 1).rowMajor.symm n 1).val - 0 = l.val
      rw [p1]
      omega
  · rw [if_neg h]
    refine dif_neg fun hin => h ?_
    have h0 : 8191 ≤ j.val * 1 + ((Routing.shape2 8192 1).rowMajor.symm n 0).val := (hin 0).1
    rw [p0] at h0
    omega

end Cert.ReferenceIdeal.Value

end
-- ==== Proof.Equation.lean ====
/-
The equation: a device's result is its block of the reference's running sum of the whole array.
-/
module

public import proofs.«01_k».proof.Proof.KernelIdealValue
public import proofs.«01_k».proof.Proof.ReferenceValue
public import Idealize.ShloMosaic.Lib.Layout

@[expose] public section

noncomputable section

namespace Cert.Equation

open Idealize.ShloMosaic Idealize.ShloMosaic.TcCoe Cert.ReferenceIdeal.Value

/-- Row `k` of block `c` of an array is the array's row `512 c + k`. -/
theorem block_row (X : FVec Ideal Cert.ReferenceIdeal.S8192x512 .f32) (c : Fin 16) (k l : Fin 512) :
    (Layout.block ⟨2, ![512, 512]⟩ ⟨2, ![8192, 512]⟩ 0 16 c X) (ix2 k l) = X (ix2 ⟨c.val * 512 + k.val, by omega⟩ l) :=
  congrArg X ((ValueIdx.eq_ix2 _).trans (congrArg₂ ValueIdx.ix2 (Fin.ext rfl) (Fin.ext rfl)))

/-- Where every device's argument is its block of `X`, every device's result is its block of the running sum of `X`. -/
theorem outAt_eq (m : (ℓ : Loc Cert.KernelIdeal.nD Cert.KernelIdeal.τ Cert.KernelIdeal.sig) → Buf (Elt Ideal) ℓ)
    (ρ : Dev Cert.KernelIdeal.nD → PrngReg) (X : FVec Ideal Cert.ReferenceIdeal.S8192x512 .f32)
    (hX : ∀ c : Dev Cert.KernelIdeal.nD, m ((c.tc : Thread Cert.KernelIdeal.nD Cert.KernelIdeal.τ).loc Cert.KernelIdeal.main_arg0)
      = Layout.block ⟨2, ![512, 512]⟩ ⟨2, ![8192, 512]⟩ 0 16 c X) (c : Dev Cert.KernelIdeal.nD) :
    Cert.KernelIdeal.Scan.outAt m ρ c = Layout.block ⟨2, ![512, 512]⟩ ⟨2, ![8192, 512]⟩ 0 16 c (refOut X) := by
  funext i
  obtain ⟨r, l, rfl⟩ : ∃ r l : Fin 512, i = ix2 r l := ⟨i 0, i 1, ValueIdx.eq_ix2 i⟩
  have row (d : Dev Cert.KernelIdeal.nD) (k l : Fin 512) :
      m ((d.tc : Thread Cert.KernelIdeal.nD Cert.KernelIdeal.τ).loc Cert.KernelIdeal.main_arg0) (ix2 k l) = rowOf X (d.val * 512 + k.val) l := by
    have hd : d.val < 16 := d.isLt
    rw [hX, rowOf, dif_pos (by omega)]
    exact block_row X d k l
  rw [Cert.KernelIdeal.Scan.outAt_apply m ρ (rowOf X) row c r l]
  exact ((block_row (refOut X) c r l).trans (refOut_apply X _ l)).symm

end Cert.Equation

end
-- ==== Proof.lean ====
/-
The claims, assembled: the kernel's run at both instances, the reference's run, and the equation between them.
-/
module

public import proofs.«01_k».proof.Defs
public import proofs.«01_k».proof.Proof.KernelRun
public import proofs.«01_k».proof.Proof.KernelIdealRun
public import proofs.«01_k».proof.Proof.Equation
public import proofs.«01_k».proof.Proof.Gen.ReferenceIdeal.Run
public import Idealize.ShloMosaic.Lib.Quiescent

@[expose] public section

noncomputable section

namespace Cert.Proof

open Idealize.ShloMosaic Idealize.SL.Sem

/-- The printed kernel ends, its argument unchanged and every counter at zero. -/
theorem frame_kernel : Cert.quiescent_Kernel (hKernel := Cert.Kernel.Gen.facts) := fun m g _ =>
  (θ_run _ _ _).mono (fun _ h => ⟨fun c => (h.1 c 0).trans (Cert.Kernel.Scan.finalA_x m g c), h.2⟩) (Cert.Kernel.Scan.run_main m g)

/-- The kernel over the reals ends, its argument unchanged and every counter at zero. -/
theorem frame_kernelIdeal : Cert.quiescent_KernelIdeal (hKernelIdeal := Cert.KernelIdeal.Gen.facts) := fun m g _ =>
  (θ_run _ _ _).mono (fun _ h => ⟨fun c => (h.1 c 0).trans (Cert.KernelIdeal.Scan.finalA_x m g c), h.2⟩) (Cert.KernelIdeal.Scan.run_main m g)

/-- The reference ends, its argument unchanged and every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Every device's result is its block of the reference's result. -/
theorem same : Cert.algebraic_KernelIdeal_ReferenceIdeal (hKernelIdeal := Cert.KernelIdeal.Gen.facts) (hReferenceIdeal := Cert.ReferenceIdeal.Gen.facts) :=
  fun m g m' g' _ hX =>
    ⟨Cert.ReferenceIdeal.Value.refOut (m' (((0 : Dev Cert.ReferenceIdeal.nD).tc : Thread Cert.ReferenceIdeal.nD Cert.ReferenceIdeal.τ).loc Cert.ReferenceIdeal.main_arg0)),
      (θ_run _ _ _).mono (fun _ h c =>
        ⟨((h.1 c 1).trans (Cert.KernelIdeal.Scan.finalA_out m g c)).trans (Cert.Equation.outAt_eq m g _ hX c),
          (h.1 c 0).trans (Cert.KernelIdeal.Scan.finalA_x m g c)⟩) (Cert.KernelIdeal.Scan.run_main m g),
      (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_reference, trivial, same⟩

end Cert.Proof

end
